-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x131072x128 : Shape := ⟨3, ![1, 131072, 128]⟩
abbrev S131072x128 : Shape := ⟨2, ![131072, 128]⟩
abbrev S1x131072 : Shape := ⟨2, ![1, 131072]⟩
abbrev S8192x128 : Shape := ⟨2, ![8192, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S32768x128 : Shape := ⟨2, ![32768, 128]⟩
abbrev S1x32768 : Shape := ⟨2, ![1, 32768]⟩
abbrev S131072x1 : Shape := ⟨2, ![131072, 1]⟩

abbrev nBuf : Space → Nat
  | .hbm => 4
  | .vmem => 6
  | .smem => 0
  | _ => 0

abbrev bufTy : (tb : Table) → Fin (tcTables nBuf tb) → BufTy
  | .hbm, ⟨0, _⟩ => ⟨S1x131072x128, .f32⟩
  | .hbm, ⟨1, _⟩ => ⟨S131072x128, .f32⟩
  | .hbm, ⟨2, _⟩ => ⟨S1x131072, .f32⟩
  | .hbm, ⟨3, _⟩ => ⟨S131072x1, .f32⟩
  | .local _ .vmem, ⟨0, _⟩ => ⟨S8192x128, .f32⟩
  | .local _ .vmem, ⟨1, _⟩ => ⟨S8192x128, .f32⟩
  | .local _ .vmem, ⟨2, _⟩ => ⟨S1x131072, .f32⟩
  | .local _ .vmem, ⟨3, _⟩ => ⟨S128x128, .f32⟩
  | .local _ .vmem, ⟨4, _⟩ => ⟨S1x128, .f32⟩
  | .local _ .vmem, ⟨5, _⟩ => ⟨S131072x128, .bf16⟩
  | _, _ => ⟨S1x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c8192_i32 : BitVec 32 := 8192#32
  let v3 : BitVec 32 := Scalar.muli arg0 c8192_i32
  let v4 : Index := Scalar.indexCast v3
  let c0_1 : Index := 0#32
  ![v4.toNat, 0]
def k0_cond3 (i : grid0.Coords) : BitVec 1 :=
  let arg0 : BitVec 32 := BitVec.ofNat 32 (i 0).val
  let c15_i32 : BitVec 32 := 15#32
  let v18 : BitVec 1 := Scalar.cmpi .eq arg0 c15_i32
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x131072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1x131072x128 : Shape := ⟨3, ![1, 131072, 128]⟩
abbrev S131072x128 : Shape := ⟨2, ![131072, 128]⟩
abbrev S128x131072 : Shape := ⟨2, ![128, 131072]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S131072 : Shape := ⟨1, ![131072]⟩
abbrev S131072x1 : Shape := ⟨2, ![131072, 1]⟩

abbrev nBuf : Space → Nat
  | .hbm => 124
  | .vmem => 0
  | .smem => 0
  | _ => 0

abbrev bufTy : (tb : Table) → Fin (tcTables nBuf tb) → BufTy
  | .hbm, ⟨0, _⟩ => ⟨S1x131072x128, .f32⟩
  | .hbm, ⟨1, _⟩ => ⟨S131072x128, .f32⟩
  | .hbm, ⟨2, _⟩ => ⟨S128x131072, .f32⟩
  | .hbm, ⟨3, _⟩ => ⟨S128x131072, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S131072x128, .f32⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .i1⟩
  | .hbm, ⟨30, _⟩ => ⟨S128x128, .f32⟩
  | .hbm, ⟨31, _⟩ => ⟨S_, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .i32⟩
  | .hbm, ⟨36, _⟩ => ⟨S128x128, .f32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S128x128, .f32⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S_, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128x1, .f32⟩
  | .hbm, ⟨57, _⟩ => ⟨S_, .f32⟩
  | .hbm, ⟨58, _⟩ => ⟨S128x1, .f32⟩
  | .hbm, ⟨59, _⟩ => ⟨S128x1, .f32⟩
  | .hbm, ⟨60, _⟩ => ⟨S128x1, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .i1⟩
  | .hbm, ⟨75, _⟩ => ⟨S_, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .i1⟩
  | .hbm, ⟨82, _⟩ => ⟨S_, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S_, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S_, .f32⟩
  | .hbm, ⟨96, _⟩ => ⟨S1x128, .f32⟩
  | .hbm, ⟨97, _⟩ => ⟨S1x128, .i1⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .i1⟩
  | .hbm, ⟨103, _⟩ => ⟨S_, .f32⟩
  | .hbm, ⟨104, _⟩ => ⟨S_, .f32⟩
  | .hbm, ⟨105, _⟩ => ⟨S1x128, .f32⟩
  | .hbm, ⟨106, _⟩ => ⟨S1x128, .f32⟩
  | .hbm, ⟨107, _⟩ => ⟨S_, .f32⟩
  | .hbm, ⟨108, _⟩ => ⟨S1x128, .f32⟩
  | .hbm, ⟨109, _⟩ => ⟨S1x128, .i1⟩
  | .hbm, ⟨110, _⟩ => ⟨S_, .f32⟩
  | .hbm, ⟨111, _⟩ => ⟨S_, .f32⟩
  | .hbm, ⟨112, _⟩ => ⟨S1x128, .f32⟩
  | .hbm, ⟨113, _⟩ => ⟨S1x128, .f32⟩
  | .hbm, ⟨114, _⟩ => ⟨S_, .f32⟩
  | .hbm, ⟨115, _⟩ => ⟨S_, .f32⟩
  | .hbm, ⟨116, _⟩ => ⟨S1x128, .f32⟩
  | .hbm, ⟨117, _⟩ => ⟨S1x128, .f32⟩
  | .hbm, ⟨118, _⟩ => ⟨S131072x128, .f32⟩
  | .hbm, ⟨119, _⟩ => ⟨S131072x128, .f32⟩
  | .hbm, ⟨120, _⟩ => ⟨S131072x128, .f32⟩
  | .hbm, ⟨121, _⟩ => ⟨S_, .f32⟩
  | .hbm, ⟨122, _⟩ => ⟨S131072, .f32⟩
  | .hbm, ⟨123, _⟩ => ⟨S131072x1, .f32⟩
  | _, _ => ⟨S1x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_call2_v0 : Ref sig .tc := ⟨.hbm, 35, rfl⟩
abbrev main_call2_v1_0 : Ref sig .tc := ⟨.hbm, 36, rfl⟩
abbrev main_v23 : Ref sig .tc := ⟨.hbm, 37, rfl⟩
abbrev main_call3_v0 : Ref sig .tc := ⟨.hbm, 38, rfl⟩
abbrev main_call3_v1_0 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_15 : Ref sig .tc := ⟨.hbm, 72, rfl⟩
abbrev main_v47 : Ref sig .tc := ⟨.hbm, 73, rfl⟩
abbrev main_v48 : Ref sig .tc := ⟨.hbm, 74, rfl⟩
abbrev main_cst_16 : Ref sig .tc := ⟨.hbm, 75, rfl⟩
abbrev main_call4_v0 : Ref sig .tc := ⟨.hbm, 76, rfl⟩
abbrev main_call4_v1 : Ref sig .tc := ⟨.hbm, 77, rfl⟩
abbrev main_v49 : Ref sig .tc := ⟨.hbm, 78, rfl⟩
abbrev main_cst_17 : Ref sig .tc := ⟨.hbm, 79, rfl⟩
abbrev main_v50 : Ref sig .tc := ⟨.hbm, 80, rfl⟩
abbrev main_v51 : Ref sig .tc := ⟨.hbm, 81, rfl⟩
abbrev main_cst_18 : Ref sig .tc := ⟨.hbm, 82, rfl⟩
abbrev main_call5_v0 : Ref sig .tc := ⟨.hbm, 83, rfl⟩
abbrev main_call5_v1 : Ref sig .tc := ⟨.hbm, 84, rfl⟩
abbrev main_v52 : Ref sig .tc := ⟨.hbm, 85, rfl⟩
abbrev main_cst_19 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_20 : Ref sig .tc := ⟨.hbm, 91, rfl⟩
abbrev main_v57 : Ref sig .tc := ⟨.hbm, 92, rfl⟩
abbrev main_v58 : Ref sig .tc := ⟨.hbm, 93, rfl⟩
abbrev main_call6_v0 : Ref sig .tc := ⟨.hbm, 94, rfl⟩
abbrev main_call6_cst : Ref sig .tc := ⟨.hbm, 95, rfl⟩
abbrev main_call6_v1 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_21 : Ref sig .tc := ⟨.hbm, 100, rfl⟩
abbrev main_v62 : Ref sig .tc := ⟨.hbm, 101, rfl⟩
abbrev main_v63 : Ref sig .tc := ⟨.hbm, 102, rfl⟩
abbrev main_cst_22 : Ref sig .tc := ⟨.hbm, 103, rfl⟩
abbrev main_call7_v0 : Ref sig .tc := ⟨.hbm, 104, rfl⟩
abbrev main_call7_v1 : Ref sig .tc := ⟨.hbm, 105, rfl⟩
abbrev main_v64 : Ref sig .tc := ⟨.hbm, 106, rfl⟩
abbrev main_cst_23 : Ref sig .tc := ⟨.hbm, 107, rfl⟩
abbrev main_v65 : Ref sig .tc := ⟨.hbm, 108, rfl⟩
abbrev main_v66 : Ref sig .tc := ⟨.hbm, 109, rfl⟩
abbrev main_cst_24 : Ref sig .tc := ⟨.hbm, 110, rfl⟩
abbrev main_call8_v0 : Ref sig .tc := ⟨.hbm, 111, rfl⟩
abbrev main_call8_v1 : Ref sig .tc := ⟨.hbm, 112, rfl⟩
abbrev main_v67 : Ref sig .tc := ⟨.hbm, 113, rfl⟩
abbrev main_cst_25 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_26 : Ref sig .tc := ⟨.hbm, 121, rfl⟩
abbrev main_v74 : Ref sig .tc := ⟨.hbm, 122, rfl⟩
abbrev main_v75 : Ref sig .tc := ⟨.hbm, 123, rfl⟩

abbrev nD : Nat := 1
abbrev τ : Topo := Topo.v7x

variable {F : FTy → Type} [FloatOps F]
-- ==== Proof.Blocks.lean ====
/- What the kernel leaves at each grid point, as plain functions of vectors: the cache with one more block of rows in
   it, the ranks counted column by column, the row of weights, and the output block. No memory here. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ranks and the weights -/

/-- The column number of each entry. -/
abbrev cols : IVec S128x128 32 := iota .tc S128x128 32 [1] iota_S128x128_d1_w32

/-- The ranks counted over the first 6 columns. -/
def upto6 (g : Vec F S128x128 .f32) (s : Vec F S1x128 .f32) : FVec F S128x128 .f32 := k0_pay17 cols (k0_pay12 g s) (k0_pay13 g s) (k0_pay15 g s) (k0_pay16 g s)

/-- The ranks counted over the first 10 columns. -/
def upto10 (g : Vec F S128x128 .f32) (s : Vec F S1x128 .f32) : FVec F S128x128 .f32 := k0_pay18 cols (k0_pay12 g s) (upto6 g s)

/-- The ranks counted over the first 15 columns. -/
def upto15 (g : Vec F S128x128 .f32) (s : Vec F S1x128 .f32) : FVec F S128x128 .f32 := k0_pay23 cols (k0_pay12 g s) (upto10 g s) (k0_pay20 (k0_pay12 g s)) (k0_pay21 (k0_pay12 g s)) (k0_pay22 cols)

/-- The ranks counted over the first 19 columns. -/
def upto19 (g : Vec F S128x128 .f32) (s : Vec F S1x128 .f32) : FVec F S128x128 .f32 := k0_pay26 cols (k0_pay12 g s) (upto15 g s) (k0_pay24 (k0_pay12 g s)) (k0_pay25 (k0_pay12 g s))

/-- The ranks counted over the first 24 columns. -/
def upto24 (g : Vec F S128x128 .f32) (s : Vec F S1x128 .f32) : FVec F S128x128 .f32 := k0_pay28 cols (k0_pay12 g s) (upto19 g s) (k0_pay27 cols (k0_pay12 g s))

/-- The ranks counted over the first 29 columns. -/
def upto29 (g : Vec F S128x128 .f32) (s : Vec F S1x128 .f32) : FVec F S128x128 .f32 := k0_pay32 cols (k0_pay12 g s) (upto24 g s) (k0_pay30 (k0_pay12 g s)) (k0_pay31 (k0_pay12 g s)) 24#32

/-- The ranks counted over the first 33 columns. -/
def upto33 (g : Vec F S128x128 .f32) (s : Vec F S1x128 .f32) : FVec F S128x128 .f32 := k0_pay34 cols (k0_pay12 g s) (upto29 g s) (k0_pay33 (k0_pay12 g s))

/-- The ranks counted over the first 38 columns. -/
def upto38 (g : Vec F S128x128 .f32) (s : Vec F S1x128 .f32) : FVec F S128x128 .f32 := k0_pay38 cols (k0_pay12 g s) (upto33 g s) (k0_pay36 (k0_pay12 g s)) (k0_pay37 cols (k0_pay12 g s))

/-- The ranks counted over the first 42 columns. -/
def upto42 (g : Vec F S128x128 .f32) (s : Vec F S1x128 .f32) : FVec F S128x128 .f32 := k0_pay42 cols (k0_pay12 g s) (upto38 g s) (k0_pay40 (k0_pay12 g s)) (k0_pay41 (k0_pay12 g s))

/-- The ranks counted over the first 47 columns. -/
def upto47 (g : Vec F S128x128 .f32) (s : Vec F S1x128 .f32) : FVec F S128x128 .f32 := k0_pay44 cols (k0_pay12 g s) (upto42 g s) (k0_pay43 cols (k0_pay12 g s))

/-- The ranks counted over the first 52 columns. -/
def upto52 (g : Vec F S128x128 .f32) (s : Vec F S1x128 .f32) : FVec F S128x128 .f32 := k0_pay49 cols (k0_pay12 g s) (upto47 g s) (k0_pay46 (k0_pay12 g s)) (k0_pay47 (k0_pay12 g s)) k0_pay48

/-- The ranks counted over the first 56 columns. -/
def upto56 (g : Vec F S128x128 .f32) (s : Vec F S1x128 .f32) : FVec F S128x128 .f32 := k0_pay52 cols (k0_pay12 g s) (upto52 g s) (k0_pay50 (k0_pay12 g s)) (k0_pay51 (k0_pay12 g s))

/-- The ranks counted over the first 61 columns. -/
def upto61 (g : Vec F S128x128 .f32) (s : Vec F S1x128 .f32) : FVec F S128x128 .f32 := k0_pay54 cols (k0_pay12 g s) (upto56 g s) (k0_pay53 cols (k0_pay12 g s))

/-- The ranks counted over the first 66 columns. -/
def upto66 (g : Vec F S128x128 .f32) (s : Vec F S1x128 .f32) : FVec F S128x128 .f32 := k0_pay58 cols (k0_pay12 g s) (upto61 g s) (k0_pay56 (k0_pay12 g s)) (k0_pay57 (k0_pay12 g s))

/-- The ranks counted over the first 70 columns. -/
def upto70 (g : Vec F S128x128 .f32) (s : Vec F S1x128 .f32) : FVec F S128x128 .f32 := k0_pay59 cols (k0_pay12 g s) (upto66 g s)

/-- The ranks counted over the first 75 columns. -/
def upto75 (g : Vec F S128x128 .f32) (s : Vec F S1x128 .f32) : FVec F S128x128 .f32 := k0_pay64 cols (k0_pay12 g s) (upto70 g s) (k0_pay61 (k0_pay12 g s)) (k0_pay62 (k0_pay12 g s)) (k0_pay63 cols)

/-- The ranks counted over the first 79 columns. -/
def upto79 (g : Vec F S128x128 .f32) (s : Vec F S1x128 .f32) : FVec F S128x128 .f32 := k0_pay67 cols (k0_pay12 g s) (upto75 g s) (k0_pay65 (k0_pay12 g s)) (k0_pay66 (k0_pay12 g s))

/-- The ranks counted over the first 84 columns. -/
def upto84 (g : Vec F S128x128 .f32) (s : Vec F S1x128 .f32) : FVec F S128x128 .f32 := k0_pay69 cols (k0_pay12 g s) (upto79 g s) (k0_pay68 cols (k0_pay12 g s))

/-- The ranks counted over the first 89 columns. -/
def upto89 (g : Vec F S128x128 .f32) (s : Vec F S1x128 .f32) : FVec F S128x128 .f32 := k0_pay73 cols (k0_pay12 g s) (upto84 g s) (k0_pay71 (k0_pay12 g s)) (k0_pay72 (k0_pay12 g s)) 84#32

/-- The ranks counted over the first 93 columns. -/
def upto93 (g : Vec F S128x128 .f32) (s : Vec F S1x128 .f32) : FVec F S128x128 .f32 := k0_pay75 cols (k0_pay12 g s) (upto89 g s) (k0_pay74 (k0_pay12 g s))

/-- The ranks counted over the first 98 columns. -/
def upto98 (g : Vec F S128x128 .f32) (s : Vec F S1x128 .f32) : FVec F S128x128 .f32 := k0_pay79 cols (k0_pay12 g s) (upto93 g s) (k0_pay77 (k0_pay12 g s)) (k0_pay78 cols (k0_pay12 g s))

/-- The ranks counted over the first 102 columns. -/
def upto102 (g : Vec F S128x128 .f32) (s : Vec F S1x128 .f32) : FVec F S128x128 .f32 := k0_pay83 cols (k0_pay12 g s) (upto98 g s) (k0_pay81 (k0_pay12 g s)) (k0_pay82 (k0_pay12 g s))

/-- The ranks counted over the first 107 columns. -/
def upto107 (g : Vec F S128x128 .f32) (s : Vec F S1x128 .f32) : FVec F S128x128 .f32 := k0_pay85 cols (k0_pay12 g s) (upto102 g s) (k0_pay84 cols (k0_pay12 g s))

/-- The ranks counted over the first 112 columns. -/
def upto112 (g : Vec F S128x128 .f32) (s : Vec F S1x128 .f32) : FVec F S128x128 .f32 := k0_pay90 cols (k0_pay12 g s) (upto107 g s) (k0_pay87 (k0_pay12 g s)) (k0_pay88 (k0_pay12 g s)) k0_pay89

/-- The ranks counted over the first 116 columns. -/
def upto116 (g : Vec F S128x128 .f32) (s : Vec F S1x128 .f32) : FVec F S128x128 .f32 := k0_pay93 cols (k0_pay12 g s) (upto112 g s) (k0_pay91 (k0_pay12 g s)) (k0_pay92 (k0_pay12 g s))

/-- The ranks counted over the first 121 columns. -/
def upto121 (g : Vec F S128x128 .f32) (s : Vec F S1x128 .f32) : FVec F S128x128 .f32 := k0_pay95 cols (k0_pay12 g s) (upto116 g s) (k0_pay94 cols (k0_pay12 g s))

/-- The ranks counted over the first 126 columns. -/
def upto126 (g : Vec F S128x128 .f32) (s : Vec F S1x128 .f32) : FVec F S128x128 .f32 := k0_pay99 cols (k0_pay12 g s) (upto121 g s) (k0_pay97 (k0_pay12 g s)) (k0_pay98 (k0_pay12 g s))

/-- The row of weights, from the accumulated Gram matrix `g` and row of squares `s`. -/
def weightRow (g : Vec F S128x128 .f32) (s : Vec F S1x128 .f32) : FVec F S1x128 .f32 :=
  k0_pay102 k0_pay11 (k0_pay100 cols (k0_pay12 g s) (upto126 g s)) (k0_pay101 cols (k0_pay12 g s) (upto126 g s))

/-! ## The cache and the output block -/

/-- The cache after point `i` has stored its block of rows. -/
def cacheStep (i : grid0.Coords) (x : Vec F S8192x128 .f32) (d : Vec F S131072x128 .bf16) : Vec F S131072x128 .bf16 :=
  VecWindow.put d ![8192 * (i 0).val, 0] S8192x128.size (k0_pay3 x)

/-- The output block from the weights `w` and the whole cache `d`: four slabs of columns, each the product of the
    weights with the matching slab of cached rows, put over `o`. -/
def outBlock (w : FVec F S1x128 .f32) (d : Vec F S131072x128 .bf16) (o : Vec F S1x131072 .f32) : Vec F S1x131072 .f32 :=
  VecWindow.put
    (VecWindow.put
      (VecWindow.put
        (VecWindow.put o ![0, 0] S1x32768.size
          (k0_pay104 w (VecWindow.window d ![0, 0] S32768x128.size inb_S131072x128_S32768x128_0_0)))
        ![0, 32768] S1x32768.size
        (k0_pay105 w (VecWindow.window d ![32768, 0] S32768x128.size inb_S131072x128_S32768x128_32768_0)))
      ![0, 65536] S1x32768.size
      (k0_pay106 w (VecWindow.window d ![65536, 0] S32768x128.size inb_S131072x128_S32768x128_65536_0)))
    ![0, 98304] S1x32768.size
    (k0_pay10 (k0_pay103 w) (VecWindow.window d ![98304, 0] S32768x128.size inb_S131072x128_S32768x128_98304_0))

end Cert.KernelIdeal.Work

end
-- ==== Proof.Points.lean ====
/- The body's branch conditions at a grid point, the memory the body is handed there, and the running value of the
   two accumulators. -/
module

public import proofs.«01_k».proof.Proof.Blocks

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch: the point is the first. -/
abbrev isFirst (i : grid0.Coords) : Prop := (Scalar.cmpi .ne (Scalar.extui (Scalar.cmpi .eq (BitVec.ofNat 32 (i 0).val) 0#32)) 0#32) = 1#1

/-- The second branch: the point is not the first. -/
abbrev isLater (i : grid0.Coords) : Prop := (Scalar.cmpi .ne (Scalar.extui (Scalar.cmpi .sgt (BitVec.ofNat 32 (i 0).val) 0#32)) 0#32) = 1#1

/-- The third branch: the point is the last. -/
abbrev isLast (i : grid0.Coords) : Prop := k0_cond3 i = 1#1

/-- The first branch is taken at point 0 alone. -/
theorem isFirst_iff : ∀ t : Fin cfg0.N, isFirst (grid0.coords t) ↔ t.val = 0 :=
  (by decide +kernel : ∀ t : Fin grid0.N, isFirst (grid0.coords t) ↔ t.val = 0)

/-- The second branch is taken at every other point. -/
theorem isLater_iff : ∀ t : Fin cfg0.N, isLater (grid0.coords t) ↔ t.val ≠ 0 :=
  (by decide +kernel : ∀ t : Fin grid0.N, isLater (grid0.coords t) ↔ t.val ≠ 0)

/-- The third branch is taken at point 15 alone. -/
theorem isLast_iff : ∀ t : Fin cfg0.N, isLast (grid0.coords t) ↔ t.val = 15 :=
  (by decide +kernel : ∀ t : Fin grid0.N, isLast (grid0.coords t) ↔ t.val = 15)

/-- The one coordinate of a point is its number. -/
theorem coord_val : ∀ t : Fin cfg0.N, (grid0.coords t 0).val = t.val :=
  (by decide +kernel : ∀ t : Fin grid0.N, (grid0.coords t 0).val = t.val)

/-- The output window is idle at all points but the last. -/
theorem isLast_idle : ∀ t : Fin cfg0.N, cfg0.idle 1 (grid0.coords t) = !decide (t.val = 15) :=
  (by decide +kernel : ∀ t : Fin grid0.N, idle0 1 (grid0.coords t) = !decide (t.val = 15))

/-! ## The buffers the body is handed -/

/-- The two windows' current staging buffers. -/
abbrev stIn (t : Fin cfg0.N) : Memref sig .tc .vmem S8192x128 .f32 := win0_0.stage (cfg0.slots t 0)
/-- The input stage is a whole buffer. -/
abbrev stIn_whole (t : Fin cfg0.N) : (stIn t).IsWhole := hstage0_0 ((cfg0.slots t 0).cast nbuf0_0)
/-- The buffer the output is staged in. -/
abbrev stOut (t : Fin cfg0.N) : Memref sig .tc .vmem S1x131072 .f32 := win0_1.stage (cfg0.slots t 1)
/-- The output stage is a whole buffer. -/
abbrev stOut_whole (t : Fin cfg0.N) : (stOut t).IsWhole := hstage0_1 ((cfg0.slots t 1).cast nbuf0_1)

/-- The Gram matrix, the row of squares, the cache. -/
abbrev gramM : Memref sig .tc .vmem S128x128 .f32 := Memref.whole cc0_scratch0
/-- The scratch array of the column squares. -/
abbrev squaresM : Memref sig .tc .vmem S1x128 .f32 := Memref.whole cc0_scratch1
/-- The scratch array of the cached input. -/
abbrev cacheM : Memref sig .tc .vmem S131072x128 .bf16 := Memref.whole cc0_scratch2

/-- What the region's scoped memory is before the first point: the three buffers at some contents. -/
theorem scoped_eq (c : Dev nD) :
    (Pipeline.ΦA spec0 c : sProp 𝕄)
      = iprop(iprop((∃ d, owns (c : Thread nD τ) gramM fullShare d) ∗ (∃ d, owns (c : Thread nD τ) squaresM fullShare d)
          ∗ (∃ d, owns (c : Thread nD τ) cacheM fullShare d)) ∗ (∃ r, prngReg c r)) := by
  unfold Pipeline.ΦA; rw [scopedRest0_eq]; simp only [gramM, squaresM, cacheM, owns_whole]; try rfl

end Cert.KernelIdeal.Work

end
-- ==== Proof.RunFirst.lean ====
/- The body at the first grid point: the two accumulators are set from the block, the block goes into the cache. -/
module

public import proofs.«01_k».proof.Proof.Points

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point, from a block `x`, the output buffer at `o` and the cache at `d`, the body leaves the
    accumulators at the block's Gram matrix and squares, the cache with the block stored, and the output as it was. -/
theorem run_first (c : Dev nD) (i : grid0.Coords) (arg1 : Memref sig .tc .vmem S8192x128 .f32) (harg1 : arg1.IsWhole)
    (arg2 : Memref sig .tc .vmem S1x131072 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S131072x128 .bf16) (harg5 : arg5.IsWhole)
    (hc0 : isFirst i) (hc1 : ¬isLater i) (hc2 : ¬isLast i) (x : Vec F S8192x128 .f32) (o : Vec F S1x131072 .f32) (d : Vec F S131072x128 .bf16)
    (E : Set ℕ) (K : PUnit → sProp 𝕄) :
    iprop(owns (c : Thread nD τ) arg1 fullShare x ∗ owns (c : Thread nD τ) arg2 fullShare o ∗ (∃ g, owns (c : Thread nD τ) arg3 fullShare g)
        ∗ (∃ s, owns (c : Thread nD τ) arg4 fullShare s) ∗ owns (c : Thread nD τ) arg5 fullShare d
        ∗ (iprop(owns (c : Thread nD τ) arg1 fullShare x ∗ owns (c : Thread nD τ) arg2 fullShare o
            ∗ owns (c : Thread nD τ) arg3 fullShare (k0_pay6 x) ∗ owns (c : Thread nD τ) arg4 fullShare (k0_pay7 x)
            ∗ owns (c : Thread nD τ) arg5 fullShare (cacheStep i x d)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, H1, ⟨%ds0, %fs0, -, HS0⟩, ⟨%ds1, %fs1, -, HS1⟩, ⟨%fs2, %hfs2, HS2⟩, Hk⟩
  obtain rfl := harg1.eq_unread hf0
  sl_exec (disch := first | sl_exact hc0 | sl_exact hc1 | sl_exact hc2)
  sl_step
  iapply Hk
  isplitl [H0]
  · iexists _; isplitr; · ipureintro; exact harg1.read_unread _
    iexact H0
  isplitl [H1]; · iexact H1
  isplitl [HS0]
  · iexists _; isplitr; swap; · iexact HS0
    ipureintro
    exact (View.read_writes_full _ _ _ _ _).trans (congrArg k0_pay6 ((View.readAt_full _ _ _).trans hf0))
  isplitl [HS1]
  · iexists _; isplitr; swap; · iexact HS1
    ipureintro
    exact (View.read_writes_full _ _ _ _ _).trans (congrArg k0_pay7 ((View.readAt_full _ _ _).trans hf0))
  iexists _; isplitr; swap; · iexact HS2
  ipureintro
  refine (View.read_writes_cons_put _ _ _ _ _ (k0_off1_eq i)).trans ?_
  rw [View.writes_nil, hfs2]
  exact congrArg (VecWindow.put d _ _) (congrArg k0_pay3 ((View.readAt_full _ _ _).trans hf0))

end Cert.KernelIdeal.Work

end
-- ==== Proof.RunMiddle.lean ====
/- The body at a middle grid point: the block is added into the two accumulators and goes into the cache. -/
module

public import proofs.«01_k».proof.Proof.RunFirst

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point, from a block `x`, the accumulators at `g` and `s`, the output buffer at `o` and the cache at `d`,
    the body adds the block's Gram matrix and squares, stores the block into the cache and leaves the output as it was. -/
theorem run_middle (c : Dev nD) (i : grid0.Coords) (arg1 : Memref sig .tc .vmem S8192x128 .f32) (harg1 : arg1.IsWhole)
    (arg2 : Memref sig .tc .vmem S1x131072 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S131072x128 .bf16) (harg5 : arg5.IsWhole)
    (hc0 : ¬isFirst i) (hc1 : isLater i) (hc2 : ¬isLast i) (x : Vec F S8192x128 .f32) (g : Vec F S128x128 .f32) (s : Vec F S1x128 .f32) (o : Vec F S1x131072 .f32) (d : Vec F S131072x128 .bf16)
    (E : Set ℕ) (K : PUnit → sProp 𝕄) :
    iprop(owns (c : Thread nD τ) arg1 fullShare x ∗ owns (c : Thread nD τ) arg2 fullShare o ∗ owns (c : Thread nD τ) arg3 fullShare g
        ∗ owns (c : Thread nD τ) arg4 fullShare s ∗ owns (c : Thread nD τ) arg5 fullShare d
        ∗ (iprop(owns (c : Thread nD τ) arg1 fullShare x ∗ owns (c : Thread nD τ) arg2 fullShare o
            ∗ owns (c : Thread nD τ) arg3 fullShare (k0_pay8 x g) ∗ owns (c : Thread nD τ) arg4 fullShare (k0_pay9 x s)
            ∗ owns (c : Thread nD τ) arg5 fullShare (cacheStep i x d)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, H1, ⟨%fs0, %hfs0, HS0⟩, ⟨%fs1, %hfs1, HS1⟩, ⟨%fs2, %hfs2, HS2⟩, Hk⟩
  obtain rfl := harg1.eq_unread hf0
  sl_exec (disch := first | sl_exact hc0 | sl_exact hc1 | sl_exact hc2)
  sl_step
  iapply Hk
  isplitl [H0]
  · iexists _; isplitr; · ipureintro; exact harg1.read_unread _
    iexact H0
  isplitl [H1]; · iexact H1
  isplitl [HS0]
  · iexists _; isplitr; swap; · iexact HS0
    ipureintro
    exact (View.read_writes_full _ _ _ _ _).trans (congrArg₂ k0_pay8 ((View.readAt_full _ _ _).trans hf0) ((View.readAt_full _ _ _).trans hfs0))
  isplitl [HS1]
  · iexists _; isplitr; swap; · iexact HS1
    ipureintro
    exact (View.read_writes_full _ _ _ _ _).trans (congrArg₂ k0_pay9 ((View.readAt_full _ _ _).trans hf0) ((View.readAt_full _ _ _).trans hfs1))
  iexists _; isplitr; swap; · iexact HS2
  ipureintro
  refine (View.read_writes_cons_put _ _ _ _ _ (k0_off1_eq i)).trans ?_
  rw [View.writes_nil, hfs2]
  exact congrArg (VecWindow.put d _ _) (congrArg k0_pay3 ((View.readAt_full _ _ _).trans hf0))

end Cert.KernelIdeal.Work

end
-- ==== Proof.RunLast.lean ====
/- The body at the last grid point: after the last block, the weights and the whole output are computed. -/
module

public import proofs.«01_k».proof.Proof.RunMiddle

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Equal contents and equal payloads give equal results of a store. -/
theorem put_congr {α : Type} {s : Shape} {x x' : s.Idx → α} (off size : Fin s.rank → ℕ) {w w' : ((a : Fin s.rank) → Fin (size a)) → α}
    (hx : x = x') (hw : w = w') : VecWindow.put x off size w = VecWindow.put x' off size w' := by
  rw [hx, hw]

set_option maxHeartbeats 4000000 in
/-- At the last point, from a block `x`, the accumulators at `g` and `s` and the cache at `d`, the body adds the block as
    before and fills the output with the product of the weights and the cached rows. -/
theorem run_last (c : Dev nD) (i : grid0.Coords) (arg1 : Memref sig .tc .vmem S8192x128 .f32) (harg1 : arg1.IsWhole)
    (arg2 : Memref sig .tc .vmem S1x131072 .f32) (harg2 : arg2.IsWhole) (arg3 : Memref sig .tc .vmem S128x128 .f32) (harg3 : arg3.IsWhole)
    (arg4 : Memref sig .tc .vmem S1x128 .f32) (harg4 : arg4.IsWhole) (arg5 : Memref sig .tc .vmem S131072x128 .bf16) (harg5 : arg5.IsWhole)
    (hc0 : ¬isFirst i) (hc1 : isLater i) (hc2 : isLast i) (x : Vec F S8192x128 .f32) (g : Vec F S128x128 .f32) (s : Vec F S1x128 .f32) (o : Vec F S1x131072 .f32) (d : Vec F S131072x128 .bf16)
    (E : Set ℕ) (K : PUnit → sProp 𝕄) :
    iprop(owns (c : Thread nD τ) arg1 fullShare x ∗ owns (c : Thread nD τ) arg2 fullShare o ∗ owns (c : Thread nD τ) arg3 fullShare g
        ∗ owns (c : Thread nD τ) arg4 fullShare s ∗ owns (c : Thread nD τ) arg5 fullShare d
        ∗ (iprop(owns (c : Thread nD τ) arg1 fullShare x ∗ owns (c : Thread nD τ) arg2 fullShare (outBlock (weightRow (k0_pay8 x g) (k0_pay9 x s)) (cacheStep i x d) o)
            ∗ owns (c : Thread nD τ) arg3 fullShare (k0_pay8 x g) ∗ owns (c : Thread nD τ) arg4 fullShare (k0_pay9 x s)
            ∗ owns (c : Thread nD τ) arg5 fullShare (cacheStep i x d)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold owns
  iintro ⟨⟨%f0, %hf0, H0⟩, ⟨%f1, %hf1, H1⟩, ⟨%fs0, %hfs0, HS0⟩, ⟨%fs1, %hfs1, HS1⟩, ⟨%fs2, %hfs2, HS2⟩, Hk⟩
  obtain rfl := harg1.eq_unread hf0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; swap; · iexact H1
    ipureintro
    have hx : View.readAt (Elt F) arg1.view (Rect.unit ![0, 0] S8192x128.size inb_S8192x128_S8192x128_0_0).toLoadRect (harg1.unread x) = x :=
      (View.readAt_full _ _ _).trans hf0
    have hw : run_last.sl.r_73 c arg1 harg1 arg3 arg4 x fs0 fs1 = weightRow (k0_pay8 x g) (k0_pay9 x s) := by
      have e : run_last.sl.r_73 c arg1 harg1 arg3 arg4 x fs0 fs1
          = weightRow
              (arg3.view.readCov [⟨Rect.unit ![0, 0] S128x128.size inb_S128x128_S128x128_0_0,
                k0_pay8 (View.readAt (Elt F) arg1.view (Rect.unit ![0, 0] S8192x128.size inb_S8192x128_S8192x128_0_0).toLoadRect (harg1.unread x))
                  (View.readAt (Elt F) arg3.view (Rect.unit ![0, 0] S128x128.size inb_S128x128_S128x128_0_0).toLoadRect fs0)⟩]
                (Rect.unit ![0, 0] S128x128.size inb_S128x128_S128x128_0_0).toLoadRect)
              (arg4.view.readCov [⟨Rect.unit ![0, 0] S1x128.size inb_S1x128_S1x128_0_0,
                k0_pay9 (View.readAt (Elt F) arg1.view (Rect.unit ![0, 0] S8192x128.size inb_S8192x128_S8192x128_0_0).toLoadRect (harg1.unread x))
                  (View.readAt (Elt F) arg4.view (Rect.unit ![0, 0] S1x128.size inb_S1x128_S1x128_0_0).toLoadRect fs1)⟩]
                (Rect.unit ![0, 0] S1x128.size inb_S1x128_S1x128_0_0).toLoadRect) := rfl
      refine e.trans (congrArg₂ weightRow ?_ ?_)
      · exact (View.readCov_full _ _ _ _ _).trans (congrArg₂ k0_pay8 hx ((View.readAt_full _ _ _).trans hfs0))
      · exact (View.readCov_full _ _ _ _ _).trans (congrArg₂ k0_pay9 hx ((View.readAt_full _ _ _).trans hfs1))
    have hd : View.read (Elt F) arg5.view (arg5.view.writes (Elt F) fs2 (run_last.sl.HS2_1 c i arg1 harg1 x)) = cacheStep i x d := by
      refine (View.read_writes_cons_put _ _ _ _ _ (k0_off1_eq i)).trans ?_
      rw [View.writes_nil, hfs2]
      exact congrArg (VecWindow.put d _ _) (congrArg k0_pay3 hx)
    have hwin : ∀ (off : Fin 2 → ℕ) (inb : ∀ a, off a + S32768x128.size a ≤ S131072x128.size a),
        View.readAt (Elt F) arg5.view (Rect.unit (s := S131072x128) off S32768x128.size inb).toLoadRect
          (arg5.view.writes (Elt F) fs2 (run_last.sl.HS2_1 c i arg1 harg1 x)) = VecWindow.window (cacheStep i x d) off S32768x128.size inb :=
      fun off inb => by rw [View.readAt_unit _ _ inb rfl inb, hd]
    unfold outBlock
    have h10 : k0_pay10 (run_last.sl.r_74 c arg1 harg1 arg3 arg4 x fs0 fs1) (run_last.sl.v1666 c i arg1 harg1 arg5 x fs2)
        = k0_pay10 (k0_pay103 (weightRow (k0_pay8 x g) (k0_pay9 x s)))
            (VecWindow.window (cacheStep i x d) ![98304, 0] S32768x128.size inb_S131072x128_S32768x128_98304_0) :=
      congrArg₂ k0_pay10 (congrArg k0_pay103 hw) (hwin ![98304, 0] inb_S131072x128_S32768x128_98304_0)
    refine (View.read_writes_cons_put _ _ _ _ _ rfl).trans ?_
    refine put_congr _ _ ?_ h10
    refine (View.read_writes_cons_put _ _ _ _ _ rfl).trans ?_
    refine put_congr _ _ ?_ (congrArg₂ k0_pay106 hw (hwin ![65536, 0] inb_S131072x128_S32768x128_65536_0))
    refine (View.read_writes_cons_put _ _ _ _ _ rfl).trans ?_
    refine put_congr _ _ ?_ (congrArg₂ k0_pay105 hw (hwin ![32768, 0] inb_S131072x128_S32768x128_32768_0))
    refine (View.read_writes_cons_put _ _ _ _ _ rfl).trans ?_
    refine put_congr _ _ ?_ (congrArg₂ k0_pay104 hw (hwin ![0, 0] inb_S131072x128_S32768x128_0_0))
    rw [View.writes_nil, hf1]
  isplitl [HS0]
  · iexists _; isplitr; swap; · iexact HS0
    ipureintro
    exact (View.read_writes_full _ _ _ _ _).trans (congrArg₂ k0_pay8 ((View.readAt_full _ _ _).trans hf0) ((View.readAt_full _ _ _).trans hfs0))
  isplitl [HS1]
  · iexists _; isplitr; swap; · iexact HS1
    ipureintro
    exact (View.read_writes_full _ _ _ _ _).trans (congrArg₂ k0_pay9 ((View.readAt_full _ _ _).trans hf0) ((View.readAt_full _ _ _).trans hfs1))
  iexists _; isplitr; swap; · iexact HS2
  ipureintro
  refine (View.read_writes_cons_put _ _ _ _ _ (k0_off1_eq i)).trans ?_
  rw [View.writes_nil, hfs2]
  exact congrArg (VecWindow.put d _ _) (congrArg k0_pay3 ((View.readAt_full _ _ _).trans hf0))

end Cert.KernelIdeal.Work

end
-- ==== Proof.Region.lean ====
/- The region point by point: what the accumulators, the cache and the output hold after each grid point, the body's
   obligation at every point, and the run of the whole program to those contents. -/
module

public import proofs.«01_k».proof.Proof.RunLast
public import Idealize.ShloMosaic.Lib.Claim

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is held after each point -/

/-- The block of rows of point `t`. -/
def rows (c : Dev nD) (t : Fin cfg0.N) : Vec F S8192x128 .f32 := iblk m c 0 t

/-- The Gram matrix of the blocks up to point `n`. -/
def gramAt (c : Dev nD) : (n : ℕ) → n < cfg0.N → Vec F S128x128 .f32
  | 0, h => k0_pay6 (rows m c ⟨0, h⟩)
  | n + 1, h => k0_pay8 (rows m c ⟨n + 1, h⟩) (gramAt c n (Nat.lt_of_succ_lt h))

/-- The column sums of squares of the blocks up to point `n`. -/
def squaresAt (c : Dev nD) : (n : ℕ) → n < cfg0.N → Vec F S1x128 .f32
  | 0, h => k0_pay7 (rows m c ⟨0, h⟩)
  | n + 1, h => k0_pay9 (rows m c ⟨n + 1, h⟩) (squaresAt c n (Nat.lt_of_succ_lt h))

/-- Every row of the cache belongs to one of the blocks. -/
theorem block_lt (y : S131072x128.Idx) : (y 0).val / 8192 < cfg0.N := by
  have h : (y 0).val < 131072 := (y 0).isLt
  have e : cfg0.N = 16 := N_0
  omega

/-- An index of the cache inside its block of rows. -/
def inBlock (y : S131072x128.Idx) : S8192x128.Idx := fun a => match a with
  | ⟨0, _⟩ => ⟨(y 0).val % 8192, Nat.mod_lt _ (by decide)⟩
  | ⟨1, _⟩ => ⟨(y 1).val, (y 1).isLt⟩

/-- The whole cache: every block's rows as the kernel stores them. -/
def fullCache (c : Dev nD) : Vec F S131072x128 .bf16 := fun y => k0_pay3 (rows m c ⟨(y 0).val / 8192, block_lt y⟩) (inBlock y)

/-- The first `n` blocks are in the cache `d`. -/
def Cached (c : Dev nD) (n : ℕ) (d : Vec F S131072x128 .bf16) : Prop := ∀ y : S131072x128.Idx, (y 0).val < 8192 * n → d y = fullCache m c y

/-- Storing point `t`'s block puts one more block in the cache. -/
theorem Cached.step {c : Dev nD} {t : Fin cfg0.N} {d : Vec F S131072x128 .bf16} (h : Cached m c t.val d) :
    Cached m c (t.val + 1) (cacheStep (grid0.coords t) (rows m c t) d) := by
  intro y hy
  unfold cacheStep VecWindow.put
  rw [coord_val t]
  by_cases hb : ∀ a, (![8192 * t.val, 0] : Fin 2 → ℕ) a ≤ (y a).val ∧ (y a).val < (![8192 * t.val, 0] : Fin 2 → ℕ) a + S8192x128.size a
  · rw [dif_pos hb]
    have h0 : 8192 * t.val ≤ (y 0).val ∧ (y 0).val < 8192 * t.val + 8192 := hb 0
    have et : (⟨(y 0).val / 8192, block_lt y⟩ : Fin cfg0.N) = t := Fin.ext (by show (y 0).val / 8192 = t.val; omega)
    unfold fullCache
    rw [et]
    refine congrArg (k0_pay3 (rows m c t)) (funext fun a => Fin.ext ?_)
    match a with
    | ⟨0, _⟩ => show (y 0).val - 8192 * t.val = (y 0).val % 8192; omega
    | ⟨1, _⟩ => show (y 1).val - 0 = (y 1).val; omega
  · rw [dif_neg hb]
    refine h y ?_
    by_contra hlt
    refine hb fun a => ?_
    match a with
    | ⟨0, _⟩ => show 8192 * t.val ≤ (y 0).val ∧ (y 0).val < 8192 * t.val + 8192; omega
    | ⟨1, _⟩ => exact ⟨Nat.zero_le _, by have := (y 1).isLt; show (y 1).val < 0 + 128; have e : S131072x128.size 1 = 128 := rfl; omega⟩

/-- After 16 blocks the cache is full. -/
theorem Cached.full {c : Dev nD} {d : Vec F S131072x128 .bf16} (h : Cached m c 16 d) : d = fullCache m c :=
  funext fun y => h y (by have : (y 0).val < 131072 := (y 0).isLt; omega)

/-- Before the first block the cache may hold anything. -/
theorem Cached.zero (c : Dev nD) (d : Vec F S131072x128 .bf16) : Cached m c 0 d := fun y h => absurd h (by omega)

/-- The four slabs cover the output block: nothing of what it held before is left. -/
theorem outBlock_indep (w : FVec F S1x128 .f32) (d : Vec F S131072x128 .bf16) (o o' : Vec F S1x131072 .f32) :
    outBlock w d o = outBlock w d o' := by
  funext y
  have h1 : (y 1).val < 131072 := (y 1).isLt
  have h0 : (y 0).val < 1 := (y 0).isLt
  have key : ∀ (n : ℕ), ¬(n ≤ (y 1).val ∧ (y 1).val < n + 32768) → ¬ ∀ a, (![0, n] : Fin 2 → ℕ) a ≤ (y a).val ∧ (y a).val < (![0, n] : Fin 2 → ℕ) a + S1x32768.size a :=
    fun n hn hall => hn (hall 1)
  have mem : ∀ (n : ℕ), (n ≤ (y 1).val ∧ (y 1).val < n + 32768) → ∀ a, (![0, n] : Fin 2 → ℕ) a ≤ (y a).val ∧ (y a).val < (![0, n] : Fin 2 → ℕ) a + S1x32768.size a := by
    intro n hn a
    match a with
    | ⟨0, _⟩ => exact ⟨Nat.zero_le _, by show (y 0).val < 0 + 1; omega⟩
    | ⟨1, _⟩ => exact hn
  unfold outBlock VecWindow.put
  by_cases c3 : 98304 ≤ (y 1).val ∧ (y 1).val < 98304 + 32768
  · rw [dif_pos (mem _ c3), dif_pos (mem _ c3)]
  rw [dif_neg (key _ c3), dif_neg (key _ c3)]
  by_cases c2 : 65536 ≤ (y 1).val ∧ (y 1).val < 65536 + 32768
  · rw [dif_pos (mem _ c2), dif_pos (mem _ c2)]
  rw [dif_neg (key _ c2), dif_neg (key _ c2)]
  by_cases c1 : 32768 ≤ (y 1).val ∧ (y 1).val < 32768 + 32768
  · rw [dif_pos (mem _ c1), dif_pos (mem _ c1)]
  rw [dif_neg (key _ c1), dif_neg (key _ c1)]
  by_cases c0 : 0 ≤ (y 1).val ∧ (y 1).val < 0 + 32768
  · rw [dif_pos (mem _ c0), dif_pos (mem _ c0)]
  · omega

/-- The last point is one of the grid. -/
theorem last_lt : 15 < cfg0.N := by rw [show cfg0.N = 16 from N_0]; decide

/-- The output block the last point leaves. -/
def finalOut (c : Dev nD) : Vec F S1x131072 .f32 :=
  outBlock (weightRow (gramAt m c 15 last_lt) (squaresAt m c 15 last_lt)) (fullCache m c) (constant S1x131072 .f32 0x00000000#32)

/-- The same, with the point before named. -/
theorem Cached.full' {c : Dev nD} {n : ℕ} {d : Vec F S131072x128 .bf16} (h : Cached m c (n + 1) d) (hn : n = 15) : d = fullCache m c := by
  subst hn; exact h.full

/-- The last point's slabs are `finalOut`. -/
theorem last_out (c : Dev nD) (n : ℕ) (hn : n + 1 < cfg0.N) (hl : n + 1 = 15) (d : Vec F S131072x128 .bf16) (hd : d = fullCache m c)
    (o : Vec F S1x131072 .f32) :
    outBlock (weightRow (k0_pay8 (rows m c ⟨n + 1, hn⟩) (gramAt m c n (Nat.lt_of_succ_lt hn)))
      (k0_pay9 (rows m c ⟨n + 1, hn⟩) (squaresAt m c n (Nat.lt_of_succ_lt hn)))) d o = finalOut m c := by
  obtain rfl : n = 14 := by omega
  subst hd
  exact outBlock_indep _ _ _ _

/-! ## The proof data -/

/-- What is held between the points: before the first nothing is known of the scratch; after point `n` the accumulators
    hold the sums over the blocks so far and the cache their rows. -/
def Held (c : Dev nD) : (n : ℕ) → n ≤ cfg0.N → sProp 𝕄
  | 0, _ => Pipeline.ΦA spec0 c
  | n + 1, h => iprop(iprop(owns (c : Thread nD τ) gramM fullShare (gramAt m c n h) ∗ owns (c : Thread nD τ) squaresM fullShare (squaresAt m c n h)
      ∗ (∃ d, ⌜Cached m c (n + 1) d⌝ ∗ owns (c : Thread nD τ) cacheM fullShare d)) ∗ (∃ r, prngReg c r))

/-- The pipeline's data: each input window keeps its block, the output window is left at `finalOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => finalOut m c
  Φ t := Held m c t.val (Nat.le_of_lt_succ t.isLt)
  q _ := fullShare
  owed _ := 0

/-- The arrays of the region are what the program holds there. -/
theorem A_eq (c : Dev nD) (w : Fin cfg0.W) : (dats m 0 c).A w = V m c (Pipeline.arrRef spec0 w) := by
  dsimp only [dats]

/-- What is held before a point. -/
theorem held_castSucc (c : Dev nD) (t : Fin cfg0.N) : (dats m 0 c).Φ t.castSucc = Held m c t.val (Nat.le_of_lt t.isLt) := by
  dsimp only [dats]; exact Pipeline.Dat.Φ_castSucc (Held m c) t

/-- What is held after a point. -/
theorem held_succ (c : Dev nD) (t : Fin cfg0.N) : (dats m 0 c).Φ t.succ
    = iprop(iprop(owns (c : Thread nD τ) gramM fullShare (gramAt m c t.val t.isLt) ∗ owns (c : Thread nD τ) squaresM fullShare (squaresAt m c t.val t.isLt)
      ∗ (∃ d, ⌜Cached m c (t.val + 1) d⌝ ∗ owns (c : Thread nD τ) cacheM fullShare d)) ∗ (∃ r, prngReg c r)) := rfl

/-- The input stage keeps its block. -/
theorem after_in (c : Dev nD) (t : Fin cfg0.N) : (dats m 0 c).after 0 t = iblk m c 0 t := by dsimp only [dats]
/-- The output stage ends with the final output. -/
theorem after_out (c : Dev nD) (t : Fin cfg0.N) : (dats m 0 c).after 1 t = finalOut m c := by dsimp only [dats]

/-- The input stage is handed the block of its point. -/
theorem before_in (c : Dev nD) (t : Fin cfg0.N) (d) : (dats m 0 c).before 0 t d = iblk m c 0 t :=
  before0_0_of m (dats m 0 c) (A_eq m c 0) (after_in m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stIn t) fullShare ((dats m 0 c).before 0 t d))
    ∗ (∃ d, owns (c : Thread nD τ) (stOut t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

/-- What the input window leaves in its stage. -/
theorem leaves_in (c : Dev nD) (t : Fin cfg0.N) :
    (dats m 0 c).leavesExact 0 t = owns (c : Thread nD τ) (stIn t) fullShare (iblk m c 0 t) := by
  unfold Dat.leavesExact; rw [show cfg0.idle 0 (grid0.coords t) = false from rfl, after_in]

/-- What the output window leaves at the last point. -/
theorem leaves_out_last (c : Dev nD) (t : Fin cfg0.N) (h : t.val = 15) :
    (dats m 0 c).leavesExact 1 t = owns (c : Thread nD τ) (stOut t) fullShare (finalOut m c) := by
  unfold Dat.leavesExact; rw [show cfg0.idle 1 (cfg0.grid.coords t) = false from (isLast_idle t).trans (by rw [h]; rfl), after_out]

/-- What the output window leaves at any other point. -/
theorem leaves_out_idle (c : Dev nD) (t : Fin cfg0.N) (h : t.val ≠ 15) :
    (dats m 0 c).leavesExact 1 t = iprop(∃ d, owns (c : Thread nD τ) (stOut t) fullShare ((dats m 0 c).before 1 t d)) := by
  have hN : t.val < 16 := lt_of_lt_of_eq t.isLt (show cfg0.N = 16 from N_0)
  refine (dats m 0 c).leavesExact_idle 1 t ((isLast_idle t).trans (by simp [h])) ?_
  refine Bool.eq_false_iff.mpr fun hf => ?_
  have := (flush0_1 t).mp hf
  omega

set_option maxHeartbeats 4800000 in
/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [held_succ, leaves_in, held_castSucc]
  have hN : t.val < 16 := lt_of_lt_of_eq t.isLt (show cfg0.N = 16 from N_0)
  obtain ⟨n, hn⟩ := t
  cases n with
  | zero =>
    rw [leaves_out_idle m c ⟨0, hn⟩ (show (0 : ℕ) ≠ 15 by decide), show Held m c (⟨0, hn⟩ : Fin cfg0.N).val _ = Pipeline.ΦA spec0 c from rfl, scoped_eq]
    iintro ⟨⟨⟨HS0, HS1, ⟨%d, HS2⟩⟩, Hg⟩, Ho, ⟨%d0, H0⟩, ⟨%d1, H1⟩⟩
    iapply (run_first c (grid0.coords ⟨0, hn⟩) _ (stIn_whole _) _ (stOut_whole _) _ (Memref.isWhole_whole _) _ (Memref.isWhole_whole _) _ (Memref.isWhole_whole _)
      ((isFirst_iff ⟨0, hn⟩).mpr rfl) (fun h => (isLater_iff ⟨0, hn⟩).mp h rfl) (fun h => absurd ((isLast_iff ⟨0, hn⟩).mp h) (show ¬ (0 : ℕ) = 15 by decide))
      (iblk m c 0 ⟨0, hn⟩) _ d Set.univ _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2 Hg]
    · isplitl [HS0 HS1 HS2]
      · isplitl [HS0]; · iexact HS0
        isplitl [HS1]; · iexact HS1
        iexists _; isplitr; swap; · iexact HS2
        ipureintro; exact Cached.step m (t := ⟨0, hn⟩) (Cached.zero m c d)
      iexact Hg
    isplitl [Ho]; · iexact Ho
    isplitl [H0]; · iexact H0
    iexists _; iexact H1
  | succ n =>
    rw [show Held m c (⟨n + 1, hn⟩ : Fin cfg0.N).val (Nat.le_of_lt hn) = iprop(iprop(owns (c : Thread nD τ) gramM fullShare (gramAt m c n (Nat.lt_of_succ_lt hn)) ∗ owns (c : Thread nD τ) squaresM fullShare (squaresAt m c n (Nat.lt_of_succ_lt hn))
      ∗ (∃ d, ⌜Cached m c (n + 1) d⌝ ∗ owns (c : Thread nD τ) cacheM fullShare d)) ∗ (∃ r, prngReg c r)) from rfl]
    by_cases hl : n + 1 = 15
    · rw [leaves_out_last m c ⟨n + 1, hn⟩ hl]
      iintro ⟨⟨⟨HS0, HS1, ⟨%d, %hd, HS2⟩⟩, Hg⟩, Ho, ⟨%d0, H0⟩, ⟨%d1, H1⟩⟩
      iapply (run_last c (grid0.coords ⟨n + 1, hn⟩) _ (stIn_whole _) _ (stOut_whole _) _ (Memref.isWhole_whole _) _ (Memref.isWhole_whole _) _ (Memref.isWhole_whole _)
        (fun h => absurd ((isFirst_iff ⟨n + 1, hn⟩).mp h) (Nat.succ_ne_zero n)) ((isLater_iff ⟨n + 1, hn⟩).mpr (Nat.succ_ne_zero n)) ((isLast_iff ⟨n + 1, hn⟩).mpr hl)
        (iblk m c 0 ⟨n + 1, hn⟩) _ _ _ d Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      have hout := last_out m c n hn hl _ ((Cached.step m (t := ⟨n + 1, hn⟩) hd).full' m hl) ((dats m 0 c).before 1 ⟨n + 1, hn⟩ d1)
      isplitl [HS0 HS1 HS2 Hg]
      · isplitl [HS0 HS1 HS2]
        · isplitl [HS0]; · iexact HS0
          isplitl [HS1]; · iexact HS1
          iexists _; isplitr; swap; · iexact HS2
          ipureintro; exact Cached.step m (t := ⟨n + 1, hn⟩) hd
        iexact Hg
      isplitl [Ho]; · iexact Ho
      isplitl [H0]; · iexact H0
      rw [← hout]; iexact H1
    · rw [leaves_out_idle m c ⟨n + 1, hn⟩ hl]
      iintro ⟨⟨⟨HS0, HS1, ⟨%d, %hd, HS2⟩⟩, Hg⟩, Ho, ⟨%d0, H0⟩, ⟨%d1, H1⟩⟩
      iapply (run_middle c (grid0.coords ⟨n + 1, hn⟩) _ (stIn_whole _) _ (stOut_whole _) _ (Memref.isWhole_whole _) _ (Memref.isWhole_whole _) _ (Memref.isWhole_whole _)
        (fun h => absurd ((isFirst_iff ⟨n + 1, hn⟩).mp h) (Nat.succ_ne_zero n)) ((isLater_iff ⟨n + 1, hn⟩).mpr (Nat.succ_ne_zero n)) (fun h => hl ((isLast_iff ⟨n + 1, hn⟩).mp h))
        (iblk m c 0 ⟨n + 1, hn⟩) _ _ _ d Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro; exact Cached.step m (t := ⟨n + 1, hn⟩) hd
        iexact Hg
      isplitl [Ho]; · iexact Ho
      isplitl [H0]; · iexact H0
      iexists _; iexact H1

/-- The body at a point is the printed body on the buffers of that point. -/
theorem body_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the region starts with is what is held before the first point. -/
theorem held_in (c : Dev nD) : Pipeline.ΦA spec0 c ⊢ (dats m 0 c).Φ 0 :=
  Idealize.SL.BI.Entails.refl _

/-- What is held after the last point is what the region ends with. -/
theorem held_out (c : Dev nD) : (dats m 0 c).Φ (Fin.last cfg0.N) ⊢ Pipeline.ΦA spec0 c := by
  rw [show (dats m 0 c).Φ (Fin.last cfg0.N) = (dats m 0 c).Φ (⟨15, last_lt⟩ : Fin cfg0.N).succ from congrArg _ (Fin.ext (show cfg0.N = 16 from N_0)), held_succ, scoped_eq]
  iintro ⟨⟨HS0, HS1, ⟨%d, -, HS2⟩⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
set_option maxHeartbeats 800000 in
/-- The program runs to its end; the arrays, and every buffer written after the region, end at the data's contents, and
    every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := held_in m) (hout := held_out m)

/-- The argument ends as it began, and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Work

end
-- ==== Proof.Same.lean ====
/- The kernel and its idealization are one program text: nothing was rewritten. What runs for the one at any floats runs for
   the other at the machine's. -/
module

public import proofs.«01_k».proof.Defs
public import proofs.«01_k».proof.Proof.Gen.Kernel
public import proofs.«01_k».proof.Proof.Region

@[expose] public section

noncomputable section

namespace Cert.Proof

open Idealize.ShloMosaic Idealize.SL.Sem

set_option maxRecDepth 65536
set_option maxHeartbeats 4000000
set_option backward.isDefEq.respectTransparency.types false
set_option backward.isDefEq.respectTransparency false

/-- The two programs have the same body table. -/
theorem body_same : Cert.Kernel.defs₀ (F := Bits) = Cert.KernelIdeal.defs₀ (F := Bits) :=
  congrArg (Defs.onTc (nD := Cert.KernelIdeal.nD) (τ := Cert.KernelIdeal.τ)) (funext fun l => funext fun a => match l, a with
    | ⟨0, _⟩, (t, s) => rfl)

/-- The two programs have the same table. -/
theorem defs_same : Cert.Kernel.defs (F := Bits) = Cert.KernelIdeal.defs (F := Bits) :=
  congrArg (Pipeline.defs (Cert.KernelIdeal.pcfgs (F := Bits))) body_same

/-- The two programs have the same main function. -/
theorem main_same : Cert.Kernel.main (F := Bits) = Cert.KernelIdeal.main (F := Bits) := rfl

/-- The kernel runs, at the machine's floats: argument unchanged, counters at zero. -/
theorem frame_kernel : Cert.quiescent_Kernel (hKernel := Cert.Kernel.Gen.facts) := fun m ρ _ =>
  Eq.mpr (congrArg (fun D => θ_run D (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)) defs_same)
  (Cert.KernelIdeal.Work.quiescent (F := Bits) m ρ)
end Cert.Proof

end
-- ==== Proof.RefStages.lean ====
/- What the reference computes, stage by stage, of its argument. -/
module

public import proofs.«01_k».proof.Proof.Gen.ReferenceIdeal
public import Idealize.ShloMosaic.Lib.StableHlo.Run

@[expose] public section

set_option Elab.async false
set_option maxRecDepth 8192

noncomputable section

namespace Cert.ReferenceIdeal.Work

open Cert.ReferenceIdeal Cert.ReferenceIdeal.Gen Idealize.ShloMosaic Idealize.ShloMosaic.TcCoe Idealize.SL.Sem Idealize.ShloMosaic.StableHlo

variable {F : FTy → Type} [FloatOps F]

/-- The input as the reference sees it: one row per column of the kernel's array. -/
def points (a : Vec F S1x131072x128 .f32) : Vec F S128x131072 .f32 :=
  transpose S128x131072 [1, 0] (shapeCast _ a shapeCasts_S1x131072x128_S131072x128) transposes_S131072x128_S128x131072_1_0

/-- The sum of squares of every point. -/
def squares (a : Vec F S1x131072x128 .f32) : Vec F S128 .f32 :=
  Host.reduceAdd (mulf (points a) (points a)) (constant S_ .f32 0x00000000#32) reducesTo_S128x131072_S128_d1 h_S_

/-- Squared distances between the points, below zero raised to zero. -/
def clipped (a : Vec F S1x131072x128 .f32) : Vec F S128x128 .f32 :=
  maximumf (subf (addf (broadcastInDim S128x128 ![0, 1] bcast_S128x1_S128x128_0_1 (broadcastInDim S128x1 ![0] bcast_S128_S128x1_0 (squares a))) (broadcastInDim S128x128 ![0, 1] bcast_S1x128_S128x128_0_1 (broadcastInDim S1x128 ![1] bcast_S128_S1x128_1 (squares a)))) (mulf (broadcastInDim S128x128 ![] bcast_S_S128x128 (constant S_ .f32 0x40000000#32)) (Host.dotGeneral dot_S128x131072_S131072x128_S128x128_1_0_0_1_n_n none (points a) (transpose S131072x128 [1, 0] (points a) transposes_S128x131072_S131072x128_1_0)))) (broadcastInDim S128x128 ![] bcast_S_S128x128 (constant S_ .f32 0x00000000#32))

/-- Distances between the points. -/
def dist (a : Vec F S1x131072x128 .f32) : Vec F S128x128 .f32 :=
  select (cmpf .ogt (clipped a) (broadcastInDim S128x128 ![] bcast_S_S128x128 (constant S_ .f32 0x00000000#32))) (Host.sqrt (select (cmpf .ogt (clipped a) (broadcastInDim S128x128 ![] bcast_S_S128x128 (constant S_ .f32 0x00000000#32))) (clipped a) (broadcastInDim S128x128 ![] bcast_S_S128x128 (id (constant S_ .f32 0x3F800000#32))))) (broadcastInDim S128x128 ![] bcast_S_S128x128 (id (constant S_ .f32 0x00000000#32)))

/-- The places of a row, 0 to 127. -/
def places : Vec F S128x128 .i32 :=
  iotaInDim S128x128 32 1

/-- For every row, the places in ascending order of the distances. -/
def order (a : Vec F S1x131072x128 .f32) : Vec F S128x128 .i32 :=
  (Host.sort2 S128x128 1 comparator_f32_i32_d1 (dist a) (places (F := F))).2

/-- The raw weights: six minus the weighted distance sums. -/
def raw (a : Vec F S1x131072x128 .f32) : Vec F S1x128 .f32 :=
  addf (mulf (broadcastInDim S1x128 ![] bcast_S_S1x128 (constant S_ .f32 0xBF800000#32)) (transpose S1x128 [1, 0] (Host.dotGeneral dot_S128x128_S128x1_S128x1_1_0_0_1_n_n none (dist a) (Host.divf (broadcastInDim S128x1 ![0] bcast_S128_S128x1_0 (Host.divf (Host.reduceAdd (subf (broadcastInDim S128x128 ![] bcast_S_S128x128 (constant S_ .f32 0x3F800000#32)) (Host.divf (mulf (broadcastInDim S128x128 ![] bcast_S_S128x128 (constant S_ .f32 0x40000000#32)) (sitofp .f32 ((Host.sort2 S128x128 1 comparator_i32_i32_d1 (order a) (places (F := F))).2))) (broadcastInDim S128x128 ![] bcast_S_S128x128 (constant S_ .f32 0x42FE0000#32)))) (constant S_ .f32 0x00000000#32) reducesTo_S128x128_S128_d0 h_S_) (broadcastInDim S128 ![] bcast_S_S128 (constant S_ .f32 0x43000000#32)))) (broadcastInDim S128x1 ![] bcast_S_S128x1 (constant S_ .f32 0x43000000#32)))) transposes_S128x1_S1x128_1_0)) (broadcastInDim S1x128 ![] bcast_S_S1x128 (constant S_ .f32 0x40C00000#32))

/-- The raw weights over their largest. -/
def scaled (a : Vec F S1x131072x128 .f32) : Vec F S1x128 .f32 :=
  Host.divf (raw a) (broadcastInDim S1x128 ![] bcast_S_S1x128 (Host.reduce FloatOps.maximumf (raw a) (constant S_ .f32 0xFF800000#32) reducesTo_S1x128_S_d0_1 h_S_))

/-- The same with one replaced by 0.99. -/
def noOne (a : Vec F S1x131072x128 .f32) : Vec F S1x128 .f32 :=
  select (cmpf .oeq (scaled a) (broadcastInDim S1x128 ![] bcast_S_S1x128 (constant S_ .f32 0x3F800000#32))) (broadcastInDim S1x128 ![] bcast_S_S1x128 (id (constant S_ .f32 0x3F7D70A4#32))) (scaled a)

/-- The same with zero replaced by 0.01. -/
def noZero (a : Vec F S1x131072x128 .f32) : Vec F S1x128 .f32 :=
  select (cmpf .oeq (noOne a) (broadcastInDim S1x128 ![] bcast_S_S1x128 (constant S_ .f32 0x00000000#32))) (broadcastInDim S1x128 ![] bcast_S_S1x128 (id (constant S_ .f32 0x3C23D70A#32))) (noOne a)

/-- Log odds plus one half. -/
def logit (a : Vec F S1x131072x128 .f32) : Vec F S1x128 .f32 :=
  addf (Host.log (Host.divf (noZero a) (subf (broadcastInDim S1x128 ![] bcast_S_S1x128 (constant S_ .f32 0x3F800000#32)) (noZero a)))) (broadcastInDim S1x128 ![] bcast_S_S1x128 (constant S_ .f32 0x3F000000#32))

/-- The same capped at one. -/
def capped (a : Vec F S1x131072x128 .f32) : Vec F S1x128 .f32 :=
  select (cmpf .ogt (addf (uitofp .f32 (cmpf .oeq (Host.absf (logit a)) (broadcastInDim S1x128 ![] bcast_S_S1x128 (constant S_ .f32 0x7F800000#32)))) (logit a)) (broadcastInDim S1x128 ![] bcast_S_S1x128 (constant S_ .f32 0x3F800000#32))) (broadcastInDim S1x128 ![] bcast_S_S1x128 (id (constant S_ .f32 0x3F800000#32))) (logit a)

/-- The same raised to zero: the weights before they are divided by their sum. -/
def weights (a : Vec F S1x131072x128 .f32) : Vec F S1x128 .f32 :=
  select (cmpf .olt (capped a) (broadcastInDim S1x128 ![] bcast_S_S1x128 (constant S_ .f32 0x00000000#32))) (broadcastInDim S1x128 ![] bcast_S_S1x128 (id (constant S_ .f32 0x00000000#32))) (capped a)

/-- The reference's result: every row's products with the normalised weights, summed. -/
def result (a : Vec F S1x131072x128 .f32) : Vec F S131072x1 .f32 :=
  broadcastInDim S131072x1 ![0] bcast_S131072_S131072x1_0 (Host.reduceAdd (mulf (transpose S131072x128 [1, 0] (points a) transposes_S128x131072_S131072x128_1_0) (broadcastInDim S131072x128 ![0, 1] bcast_S1x128_S131072x128_0_1 (Host.divf (weights a) (broadcastInDim S1x128 ![] bcast_S_S1x128 (Host.reduceAdd (weights a) (constant S_ .f32 0x00000000#32) reducesTo_S1x128_S_d0_1 h_S_))))) (constant S_ .f32 0x00000000#32) reducesTo_S131072x128_S131072_d1 h_S_)

end Cert.ReferenceIdeal.Work

end
-- ==== Proof.RefRun.lean ====
/- The reference's run: its operations as a list, read back stretch by stretch; its result ends at `result` of its argument. -/
module

public import proofs.«01_k».proof.Proof.RefStages
public import Idealize.ShloMosaic.Lib.Pipeline.Frame

@[expose] public section

set_option Elab.async false
set_option maxRecDepth 8192

noncomputable section

namespace Cert.ReferenceIdeal.Work

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 123 (window `main_part0`). -/
abbrev ops_part0_0 : List (HloOp τ sig (Elt F)) :=
  [ reshape main_arg0 main_v0 (rfl : (.f32 : EltTy) = .f32) shapeCasts_S1x131072x128_S131072x128,
    unary main_v0 main_v1 ((transpose S128x131072 [1, 0] · transposes_S131072x128_S128x131072_1_0) : (⟨S131072x128, .f32⟩ : BufTy).Contents (Elt F) → (⟨S128x131072, .f32⟩ : BufTy).Contents (Elt F)),
    binary main_v1 main_v1 main_v2 (mulf : (⟨S128x131072, .f32⟩ : BufTy).Contents (Elt F) → (⟨S128x131072, .f32⟩ : BufTy).Contents (Elt F) → (⟨S128x131072, .f32⟩ : BufTy).Contents (Elt F)),
    nullary main_cst (constant S_ .f32 0x00000000#32),
    binary main_v2 main_cst main_v3 ((fun x v => Host.reduceAdd x v reducesTo_S128x131072_S128_d1 h_S_) : (⟨S128x131072, .f32⟩ : BufTy).Contents (Elt F) → (⟨S_, .f32⟩ : BufTy).Contents (Elt F) → (⟨S128, .f32⟩ : BufTy).Contents (Elt F)),
    unary main_v3 main_v4 (broadcastInDim S128x1 ![0] bcast_S128_S128x1_0 : (⟨S128, .f32⟩ : BufTy).Contents (Elt F) → (⟨S128x1, .f32⟩ : BufTy).Contents (Elt F)),
    unary main_v3 main_v5 (broadcastInDim S1x128 ![1] bcast_S128_S1x128_1 : (⟨S128, .f32⟩ : BufTy).Contents (Elt F) → (⟨S1x128, .f32⟩ : BufTy).Contents (Elt F)),
    unary main_v4 main_v6 (broadcastInDim S128x128 ![0, 1] bcast_S128x1_S128x128_0_1 : (⟨S128x1, .f32⟩ : BufTy).Contents (Elt F) → (⟨S128x128, .f32⟩ : BufTy).Contents (Elt F)),
    unary main_v5 main_v7 (broadcastInDim S128x128 ![0, 1] bcast_S1x128_S128x128_0_1 : (⟨S1x128, .f32⟩ : BufTy).Contents (Elt F) → (⟨S128x128, .f32⟩ : BufTy).Contents (Elt F)),
    binary main_v6 main_v7 main_v8 (addf : (⟨S128x128, .f32⟩ : BufTy).Contents (Elt F) → (⟨S128x128, .f32⟩ : BufTy).Contents (Elt F) → (⟨S128x128, .f32⟩ : BufTy).Contents (Elt F)),
    unary main_v1 main_v9 ((transpose S131072x128 [1, 0] · transposes_S128x131072_S131072x128_1_0) : (⟨S128x131072, .f32⟩ : BufTy).Contents (Elt F) → (⟨S131072x128, .f32⟩ : BufTy).Contents (Elt F)),
    binary main_v1 main_v9 main_v10 ((fun l r => Host.dotGeneral dot_S128x131072_S131072x128_S128x128_1_0_0_1_n_n none l r) : (⟨S128x131072, .f32⟩ : BufTy).Contents (Elt F) → (⟨S131072x128, .f32⟩ : BufTy).Contents (Elt F) → (⟨S128x128, .f32⟩ : BufTy).Contents (Elt F)),
    nullary main_cst_0 (constant S_ .f32 0x40000000#32),
    unary main_cst_0 main_v11 (broadcastInDim S128x128 ![] bcast_S_S128x128 : (⟨S_, .f32⟩ : BufTy).Contents (Elt F) → (⟨S128x128, .f32⟩ : BufTy).Contents (Elt F)),
    binary main_v11 main_v10 main_v12 (mulf : (⟨S128x128, .f32⟩ : BufTy).Contents (Elt F) → (⟨S128x128, .f32⟩ : BufTy).Contents (Elt F) → (⟨S128x128, .f32⟩ : BufTy).Contents (Elt F)),
    binary main_v8 main_v12 main_v13 (subf : (⟨S128x128, .f32⟩ : BufTy).Contents (Elt F) → (⟨S128x128, .f32⟩ : BufTy).Contents (Elt F) → (⟨S128x128, .f32⟩ : BufTy).Contents (Elt F)),
    nullary main_cst_1 (constant S_ .f32 0x00000000#32),
    unary main_cst_1 main_v14 (broadcastInDim S128x128 ![] bcast_S_S128x128 : (⟨S_, .f32⟩ : BufTy).Contents (Elt F) → (⟨S128x128, .f32⟩ : BufTy).Contents (Elt F)),
    binary main_v13 main_v14 main_v15 (maximumf : (⟨S128x128, .f32⟩ : BufTy).Contents (Elt F) → (⟨S128x128, .f32⟩ : BufTy).Contents (Elt F) → (⟨S128x128, .f32⟩ : BufTy).Contents (Elt F)),
    nullary main_cst_2 (constant S_ .f32 0x00000000#32),
    unary main_cst_2 main_v16 (broadcastInDim S128x128 ![] bcast_S_S128x128 : (⟨S_, .f32⟩ : BufTy).Contents (Elt F) → (⟨S128x128, .f32⟩ : BufTy).Contents (Elt F)),
    binary main_v15 main_v16 main_v17 (cmpf .ogt : (⟨S128x128, .f32⟩ : BufTy).Contents (Elt F) → (⟨S128x128, .f32⟩ : BufTy).Contents (Elt F) → (⟨S128x128, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S128x128, .f32⟩) main_call0_v1) (broadcastInDim S128x128 ![] bcast_S_S128x128),
    TRef.ternary (TRef.of (T := ⟨S128x128, .i1⟩) main_v17) (TRef.of (T := ⟨S128x128, .f32⟩) main_v15) (TRef.of (T := ⟨S128x128, .f32⟩) main_call0_v1) (TRef.of (T := ⟨S128x128, .f32⟩) main_v18) select,
    nullary main_cst_4 (constant S_ .f32 0x00000000#32),
    unary main_cst_4 main_v19 (broadcastInDim S128x128 ![] bcast_S_S128x128 : (⟨S_, .f32⟩ : BufTy).Contents (Elt F) → (⟨S128x128, .f32⟩ : BufTy).Contents (Elt F)),
    binary main_v15 main_v19 main_v20 (cmpf .ogt : (⟨S128x128, .f32⟩ : BufTy).Contents (Elt F) → (⟨S128x128, .f32⟩ : BufTy).Contents (Elt F) → (⟨S128x128, .i1⟩ : BufTy).Contents (Elt F)),
    unary main_v18 main_v21 (Host.sqrt : (⟨S128x128, .f32⟩ : BufTy).Contents (Elt F) → (⟨S128x128, .f32⟩ : BufTy).Contents (Elt F)) ]

/-- @main's operations 31 … 60 of 123 (window `main_part0`). -/
abbrev ops_part0_1 : List (HloOp τ sig (Elt F)) :=
  [ nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S128x128, .f32⟩) main_call1_v1) (broadcastInDim S128x128 ![] bcast_S_S128x128),
    TRef.ternary (TRef.of (T := ⟨S128x128, .i1⟩) main_v20) (TRef.of (T := ⟨S128x128, .f32⟩) main_v21) (TRef.of (T := ⟨S128x128, .f32⟩) main_call1_v1) (TRef.of (T := ⟨S128x128, .f32⟩) main_v22) select,
    TRef.nullary (TRef.of (T := ⟨S128x128, .i32⟩) main_call2_v0) (iotaInDim S128x128 32 1),
    TRef.binary (TRef.of (T := ⟨S128x128, .f32⟩) main_v22) (TRef.of (T := ⟨S128x128, .i32⟩) main_call2_v0) (TRef.of (T := ⟨S128x128, .f32⟩) main_call2_v1_0) (fun x y => (Host.sort2 S128x128 1 comparator_f32_i32_d1 x y).1),
    TRef.binary (TRef.of (T := ⟨S128x128, .f32⟩) main_v22) (TRef.of (T := ⟨S128x128, .i32⟩) main_call2_v0) (TRef.of (T := ⟨S128x128, .i32⟩) main_v23) (fun x y => (Host.sort2 S128x128 1 comparator_f32_i32_d1 x y).2),
    TRef.nullary (TRef.of (T := ⟨S128x128, .i32⟩) main_call3_v0) (iotaInDim S128x128 32 1),
    TRef.binary (TRef.of (T := ⟨S128x128, .i32⟩) main_v23) (TRef.of (T := ⟨S128x128, .i32⟩) main_call3_v0) (TRef.of (T := ⟨S128x128, .i32⟩) main_call3_v1_0) (fun x y => (Host.sort2 S128x128 1 comparator_i32_i32_d1 x y).1),
    TRef.binary (TRef.of (T := ⟨S128x128, .i32⟩) main_v23) (TRef.of (T := ⟨S128x128, .i32⟩) main_call3_v0) (TRef.of (T := ⟨S128x128, .i32⟩) main_v24) (fun x y => (Host.sort2 S128x128 1 comparator_i32_i32_d1 x y).2),
    unary main_v24 main_v25 (sitofp .f32 : (⟨S128x128, .i32⟩ : BufTy).Contents (Elt F) → (⟨S128x128, .f32⟩ : BufTy).Contents (Elt F)),
    nullary main_cst_6 (constant S_ .f32 0x40000000#32),
    unary main_cst_6 main_v26 (broadcastInDim S128x128 ![] bcast_S_S128x128 : (⟨S_, .f32⟩ : BufTy).Contents (Elt F) → (⟨S128x128, .f32⟩ : BufTy).Contents (Elt F)),
    binary main_v26 main_v25 main_v27 (mulf : (⟨S128x128, .f32⟩ : BufTy).Contents (Elt F) → (⟨S128x128, .f32⟩ : BufTy).Contents (Elt F) → (⟨S128x128, .f32⟩ : BufTy).Contents (Elt F)),
    nullary main_cst_7 (constant S_ .f32 0x42FE0000#32),
    unary main_cst_7 main_v28 (broadcastInDim S128x128 ![] bcast_S_S128x128 : (⟨S_, .f32⟩ : BufTy).Contents (Elt F) → (⟨S128x128, .f32⟩ : BufTy).Contents (Elt F)),
    binary main_v27 main_v28 main_v29 (Host.divf : (⟨S128x128, .f32⟩ : BufTy).Contents (Elt F) → (⟨S128x128, .f32⟩ : BufTy).Contents (Elt F) → (⟨S128x128, .f32⟩ : BufTy).Contents (Elt F)),
    nullary main_cst_8 (constant S_ .f32 0x3F800000#32),
    unary main_cst_8 main_v30 (broadcastInDim S128x128 ![] bcast_S_S128x128 : (⟨S_, .f32⟩ : BufTy).Contents (Elt F) → (⟨S128x128, .f32⟩ : BufTy).Contents (Elt F)),
    binary main_v30 main_v29 main_v31 (subf : (⟨S128x128, .f32⟩ : BufTy).Contents (Elt F) → (⟨S128x128, .f32⟩ : BufTy).Contents (Elt F) → (⟨S128x128, .f32⟩ : BufTy).Contents (Elt F)),
    nullary main_cst_9 (constant S_ .f32 0x00000000#32),
    binary main_v31 main_cst_9 main_v32 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    nullary main_cst_10 (constant S_ .f32 0x43000000#32),
    unary main_cst_10 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    unary main_v34 main_v35 (broadcastInDim S128x1 ![0] bcast_S128_S128x1_0 : (⟨S128, .f32⟩ : BufTy).Contents (Elt F) → (⟨S128x1, .f32⟩ : BufTy).Contents (Elt F)),
    nullary main_cst_11 (constant S_ .f32 0x43000000#32),
    unary main_cst_11 main_v36 (broadcastInDim S128x1 ![] bcast_S_S128x1 : (⟨S_, .f32⟩ : BufTy).Contents (Elt F) → (⟨S128x1, .f32⟩ : BufTy).Contents (Elt F)),
    binary main_v35 main_v36 main_v37 (Host.divf : (⟨S128x1, .f32⟩ : BufTy).Contents (Elt F) → (⟨S128x1, .f32⟩ : BufTy).Contents (Elt F) → (⟨S128x1, .f32⟩ : BufTy).Contents (Elt F)),
    binary main_v22 main_v37 main_v38 ((fun l r => Host.dotGeneral dot_S128x128_S128x1_S128x1_1_0_0_1_n_n none l r) : (⟨S128x128, .f32⟩ : BufTy).Contents (Elt F) → (⟨S128x1, .f32⟩ : BufTy).Contents (Elt F) → (⟨S128x1, .f32⟩ : BufTy).Contents (Elt F)) ]

/-- @main's operations 61 … 68 of 123 (window `main_part0`). -/
abbrev ops_part0_2 : List (HloOp τ sig (Elt F)) :=
  [ unary main_v38 main_v39 ((transpose S1x128 [1, 0] · transposes_S128x1_S1x128_1_0) : (⟨S128x1, .f32⟩ : BufTy).Contents (Elt F) → (⟨S1x128, .f32⟩ : BufTy).Contents (Elt F)),
    nullary main_cst_12 (constant S_ .f32 0xBF800000#32),
    unary main_cst_12 main_v40 (broadcastInDim S1x128 ![] bcast_S_S1x128 : (⟨S_, .f32⟩ : BufTy).Contents (Elt F) → (⟨S1x128, .f32⟩ : BufTy).Contents (Elt F)),
    binary main_v40 main_v39 main_v41 (mulf : (⟨S1x128, .f32⟩ : BufTy).Contents (Elt F) → (⟨S1x128, .f32⟩ : BufTy).Contents (Elt F) → (⟨S1x128, .f32⟩ : BufTy).Contents (Elt F)),
    nullary main_cst_13 (constant S_ .f32 0x40C00000#32),
    unary main_cst_13 main_v42 (broadcastInDim S1x128 ![] bcast_S_S1x128 : (⟨S_, .f32⟩ : BufTy).Contents (Elt F) → (⟨S1x128, .f32⟩ : BufTy).Contents (Elt F)),
    binary main_v41 main_v42 main_v43 (addf : (⟨S1x128, .f32⟩ : BufTy).Contents (Elt F) → (⟨S1x128, .f32⟩ : BufTy).Contents (Elt F) → (⟨S1x128, .f32⟩ : BufTy).Contents (Elt F)),
    nullary main_cst_14 (constant S_ .f32 0xFF800000#32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 69 … 123 of 123 (window `main_part1`). -/
abbrev ops_part1 : List (HloOp τ sig (Elt F)) :=
  [ binary main_v43 main_cst_14 main_v44 ((fun x v => Host.reduce FloatOps.maximumf x v reducesTo_S1x128_S_d0_1 h_S_) : (⟨S1x128, .f32⟩ : BufTy).Contents (Elt F) → (⟨S_, .f32⟩ : BufTy).Contents (Elt F) → (⟨S_, .f32⟩ : BufTy).Contents (Elt F)),
    unary main_v44 main_v45 (broadcastInDim S1x128 ![] bcast_S_S1x128 : (⟨S_, .f32⟩ : BufTy).Contents (Elt F) → (⟨S1x128, .f32⟩ : BufTy).Contents (Elt F)),
    binary main_v43 main_v45 main_v46 (Host.divf : (⟨S1x128, .f32⟩ : BufTy).Contents (Elt F) → (⟨S1x128, .f32⟩ : BufTy).Contents (Elt F) → (⟨S1x128, .f32⟩ : BufTy).Contents (Elt F)),
    nullary main_cst_15 (constant S_ .f32 0x3F800000#32),
    unary main_cst_15 main_v47 (broadcastInDim S1x128 ![] bcast_S_S1x128 : (⟨S_, .f32⟩ : BufTy).Contents (Elt F) → (⟨S1x128, .f32⟩ : BufTy).Contents (Elt F)),
    binary main_v46 main_v47 main_v48 (cmpf .oeq : (⟨S1x128, .f32⟩ : BufTy).Contents (Elt F) → (⟨S1x128, .f32⟩ : BufTy).Contents (Elt F) → (⟨S1x128, .i1⟩ : BufTy).Contents (Elt F)),
    nullary main_cst_16 (constant S_ .f32 0x3F7D70A4#32),
    TRef.unary (TRef.of (T := ⟨S_, .f32⟩) main_cst_16) (TRef.of (T := ⟨S_, .f32⟩) main_call4_v0) id,
    TRef.unary (TRef.of (T := ⟨S_, .f32⟩) main_call4_v0) (TRef.of (T := ⟨S1x128, .f32⟩) main_call4_v1) (broadcastInDim S1x128 ![] bcast_S_S1x128),
    TRef.ternary (TRef.of (T := ⟨S1x128, .i1⟩) main_v48) (TRef.of (T := ⟨S1x128, .f32⟩) main_call4_v1) (TRef.of (T := ⟨S1x128, .f32⟩) main_v46) (TRef.of (T := ⟨S1x128, .f32⟩) main_v49) select,
    nullary main_cst_17 (constant S_ .f32 0x00000000#32),
    unary main_cst_17 main_v50 (broadcastInDim S1x128 ![] bcast_S_S1x128 : (⟨S_, .f32⟩ : BufTy).Contents (Elt F) → (⟨S1x128, .f32⟩ : BufTy).Contents (Elt F)),
    binary main_v49 main_v50 main_v51 (cmpf .oeq : (⟨S1x128, .f32⟩ : BufTy).Contents (Elt F) → (⟨S1x128, .f32⟩ : BufTy).Contents (Elt F) → (⟨S1x128, .i1⟩ : BufTy).Contents (Elt F)),
    nullary main_cst_18 (constant S_ .f32 0x3C23D70A#32),
    TRef.unary (TRef.of (T := ⟨S_, .f32⟩) main_cst_18) (TRef.of (T := ⟨S_, .f32⟩) main_call5_v0) id,
    TRef.unary (TRef.of (T := ⟨S_, .f32⟩) main_call5_v0) (TRef.of (T := ⟨S1x128, .f32⟩) main_call5_v1) (broadcastInDim S1x128 ![] bcast_S_S1x128),
    TRef.ternary (TRef.of (T := ⟨S1x128, .i1⟩) main_v51) (TRef.of (T := ⟨S1x128, .f32⟩) main_call5_v1) (TRef.of (T := ⟨S1x128, .f32⟩) main_v49) (TRef.of (T := ⟨S1x128, .f32⟩) main_v52) select,
    nullary main_cst_19 (constant S_ .f32 0x3F800000#32),
    unary main_cst_19 main_v53 (broadcastInDim S1x128 ![] bcast_S_S1x128 : (⟨S_, .f32⟩ : BufTy).Contents (Elt F) → (⟨S1x128, .f32⟩ : BufTy).Contents (Elt F)),
    binary main_v53 main_v52 main_v54 (subf : (⟨S1x128, .f32⟩ : BufTy).Contents (Elt F) → (⟨S1x128, .f32⟩ : BufTy).Contents (Elt F) → (⟨S1x128, .f32⟩ : BufTy).Contents (Elt F)),
    binary main_v52 main_v54 main_v55 (Host.divf : (⟨S1x128, .f32⟩ : BufTy).Contents (Elt F) → (⟨S1x128, .f32⟩ : BufTy).Contents (Elt F) → (⟨S1x128, .f32⟩ : BufTy).Contents (Elt F)),
    unary main_v55 main_v56 (Host.log : (⟨S1x128, .f32⟩ : BufTy).Contents (Elt F) → (⟨S1x128, .f32⟩ : BufTy).Contents (Elt F)),
    nullary main_cst_20 (constant S_ .f32 0x3F000000#32),
    unary main_cst_20 main_v57 (broadcastInDim S1x128 ![] bcast_S_S1x128 : (⟨S_, .f32⟩ : BufTy).Contents (Elt F) → (⟨S1x128, .f32⟩ : BufTy).Contents (Elt F)),
    binary main_v56 main_v57 main_v58 (addf : (⟨S1x128, .f32⟩ : BufTy).Contents (Elt F) → (⟨S1x128, .f32⟩ : BufTy).Contents (Elt F) → (⟨S1x128, .f32⟩ : BufTy).Contents (Elt F)),
    TRef.unary (TRef.of (T := ⟨S1x128, .f32⟩) main_v58) (TRef.of (T := ⟨S1x128, .f32⟩) main_call6_v0) Host.absf,
    TRef.nullary (TRef.of (T := ⟨S_, .f32⟩) main_call6_cst) (constant S_ .f32 0x7F800000#32),
    TRef.unary (TRef.of (T := ⟨S_, .f32⟩) main_call6_cst) (TRef.of (T := ⟨S1x128, .f32⟩) main_call6_v1) (broadcastInDim S1x128 ![] bcast_S_S1x128),
    TRef.binary (TRef.of (T := ⟨S1x128, .f32⟩) main_call6_v0) (TRef.of (T := ⟨S1x128, .f32⟩) main_call6_v1) (TRef.of (T := ⟨S1x128, .i1⟩) main_v59) (cmpf .oeq),
    unary main_v59 main_v60 (uitofp .f32 : (⟨S1x128, .i1⟩ : BufTy).Contents (Elt F) → (⟨S1x128, .f32⟩ : BufTy).Contents (Elt F)),
    binary main_v60 main_v58 main_v61 (addf : (⟨S1x128, .f32⟩ : BufTy).Contents (Elt F) → (⟨S1x128, .f32⟩ : BufTy).Contents (Elt F) → (⟨S1x128, .f32⟩ : BufTy).Contents (Elt F)),
    nullary main_cst_21 (constant S_ .f32 0x3F800000#32),
    unary main_cst_21 main_v62 (broadcastInDim S1x128 ![] bcast_S_S1x128 : (⟨S_, .f32⟩ : BufTy).Contents (Elt F) → (⟨S1x128, .f32⟩ : BufTy).Contents (Elt F)),
    binary main_v61 main_v62 main_v63 (cmpf .ogt : (⟨S1x128, .f32⟩ : BufTy).Contents (Elt F) → (⟨S1x128, .f32⟩ : BufTy).Contents (Elt F) → (⟨S1x128, .i1⟩ : BufTy).Contents (Elt F)),
    nullary main_cst_22 (constant S_ .f32 0x3F800000#32),
    TRef.unary (TRef.of (T := ⟨S_, .f32⟩) main_cst_22) (TRef.of (T := ⟨S_, .f32⟩) main_call7_v0) id,
    TRef.unary (TRef.of (T := ⟨S_, .f32⟩) main_call7_v0) (TRef.of (T := ⟨S1x128, .f32⟩) main_call7_v1) (broadcastInDim S1x128 ![] bcast_S_S1x128),
    TRef.ternary (TRef.of (T := ⟨S1x128, .i1⟩) main_v63) (TRef.of (T := ⟨S1x128, .f32⟩) main_call7_v1) (TRef.of (T := ⟨S1x128, .f32⟩) main_v58) (TRef.of (T := ⟨S1x128, .f32⟩) main_v64) select,
    nullary main_cst_23 (constant S_ .f32 0x00000000#32),
    unary main_cst_23 main_v65 (broadcastInDim S1x128 ![] bcast_S_S1x128 : (⟨S_, .f32⟩ : BufTy).Contents (Elt F) → (⟨S1x128, .f32⟩ : BufTy).Contents (Elt F)),
    binary main_v64 main_v65 main_v66 (cmpf .olt : (⟨S1x128, .f32⟩ : BufTy).Contents (Elt F) → (⟨S1x128, .f32⟩ : BufTy).Contents (Elt F) → (⟨S1x128, .i1⟩ : BufTy).Contents (Elt F)),
    nullary main_cst_24 (constant S_ .f32 0x00000000#32),
    TRef.unary (TRef.of (T := ⟨S_, .f32⟩) main_cst_24) (TRef.of (T := ⟨S_, .f32⟩) main_call8_v0) id,
    TRef.unary (TRef.of (T := ⟨S_, .f32⟩) main_call8_v0) (TRef.of (T := ⟨S1x128, .f32⟩) main_call8_v1) (broadcastInDim S1x128 ![] bcast_S_S1x128),
    TRef.ternary (TRef.of (T := ⟨S1x128, .i1⟩) main_v66) (TRef.of (T := ⟨S1x128, .f32⟩) main_call8_v1) (TRef.of (T := ⟨S1x128, .f32⟩) main_v64) (TRef.of (T := ⟨S1x128, .f32⟩) main_v67) select,
    nullary main_cst_25 (constant S_ .f32 0x00000000#32),
    binary main_v67 main_cst_25 main_v68 ((fun x v => Host.reduceAdd x v reducesTo_S1x128_S_d0_1 h_S_) : (⟨S1x128, .f32⟩ : BufTy).Contents (Elt F) → (⟨S_, .f32⟩ : BufTy).Contents (Elt F) → (⟨S_, .f32⟩ : BufTy).Contents (Elt F)),
    unary main_v68 main_v69 (broadcastInDim S1x128 ![] bcast_S_S1x128 : (⟨S_, .f32⟩ : BufTy).Contents (Elt F) → (⟨S1x128, .f32⟩ : BufTy).Contents (Elt F)),
    binary main_v67 main_v69 main_v70 (Host.divf : (⟨S1x128, .f32⟩ : BufTy).Contents (Elt F) → (⟨S1x128, .f32⟩ : BufTy).Contents (Elt F) → (⟨S1x128, .f32⟩ : BufTy).Contents (Elt F)),
    unary main_v1 main_v71 ((transpose S131072x128 [1, 0] · transposes_S128x131072_S131072x128_1_0) : (⟨S128x131072, .f32⟩ : BufTy).Contents (Elt F) → (⟨S131072x128, .f32⟩ : BufTy).Contents (Elt F)),
    unary main_v70 main_v72 (broadcastInDim S131072x128 ![0, 1] bcast_S1x128_S131072x128_0_1 : (⟨S1x128, .f32⟩ : BufTy).Contents (Elt F) → (⟨S131072x128, .f32⟩ : BufTy).Contents (Elt F)),
    binary main_v71 main_v72 main_v73 (mulf : (⟨S131072x128, .f32⟩ : BufTy).Contents (Elt F) → (⟨S131072x128, .f32⟩ : BufTy).Contents (Elt F) → (⟨S131072x128, .f32⟩ : BufTy).Contents (Elt F)),
    nullary main_cst_26 (constant S_ .f32 0x00000000#32),
    binary main_v73 main_cst_26 main_v74 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v74 main_v75 (broadcastInDim S131072x1 ![0] bcast_S131072_S131072x1_0 : (⟨S131072, .f32⟩ : BufTy).Contents (Elt F) → (⟨S131072x1, .f32⟩ : BufTy).Contents (Elt F)) ]

/-- @main's 123 operations, in order (a called function's operations stand in its call's place, spelt `TRef.…`). -/
abbrev ops : List (HloOp τ sig (Elt F)) :=
  ops_part0 ++ (ops_part1)

set_option maxHeartbeats 4000000 in
/-- The program's text is the list, run in order. -/
theorem main_part0_eq (c : Dev nD) : main_part0 (F := F) c = seq ops_part0 := rfl
set_option maxHeartbeats 4000000 in
/-- The program's text is the list, run in order. -/
theorem main_part1_eq (c : Dev nD) : main_part1 (F := F) c = seq ops_part1 := rfl
/-- The program is its list of operations. -/
theorem main_eq (c : Dev nD) : main (F := F) c = seq ops := by
  simp only [ops, seq_append, ← main_part0_eq c, ← main_part1_eq c]
  rfl

/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide

theorem ops_part0_0_sub : (ops_part0_0 : List (HloOp τ sig (Elt F))).Forall fun op => op.bufs ⊆ tcRefs τ sig :=
  ⟨reshape_bufs_sub .., unary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub ..⟩

theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part0_1_sub : (ops_part0_1 : List (HloOp τ sig (Elt F))).Forall fun op => op.bufs ⊆ tcRefs τ sig :=
  ⟨nullary_bufs_sub .., unary_bufs_sub .., unary_bufs_sub .., ternary_bufs_sub .., nullary_bufs_sub .., binary_bufs_sub .., binary_bufs_sub .., nullary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., binary_bufs_sub ..⟩

theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part0_2_sub : (ops_part0_2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub ..⟩

theorem ops_part0_2_fresh : (ops_part0_2 : List (HloOp τ sig (Elt F))).Forall fun op => op.fresh = ∅ :=
  ⟨rfl, rfl, rfl, rfl, rfl, rfl, rfl, rfl⟩

theorem ops_part1_sub : (ops_part1 : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., unary_bufs_sub .., binary_bufs_sub .., unary_bufs_sub .., unary_bufs_sub .., binary_bufs_sub .., nullary_bufs_sub .., binary_bufs_sub .., unary_bufs_sub ..⟩

theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations stay within the program's buffers. -/
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h]
/-- No operation takes a fresh buffer. -/
theorem ops_fresh : ∀ op ∈ (ops : List (HloOp τ sig (Elt F))), op.fresh = ∅ := fun op h => by
    simp only [ops, ops_part0, List.mem_append, or_assoc] at h
    rcases h with h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_cst, main_v3, main_v4, main_v5, main_v6, main_v7, main_v8, main_v9, main_v10, main_cst_0, main_v11, main_v12, main_v13, main_cst_1, main_v14, main_v15, main_cst_2, main_v16, main_v17, main_cst_3, main_call0_v0, main_call0_v1, main_v18, main_cst_4, main_v19, main_v20, main_v21]
theorem ops_part0_0_writes : (ops_part0_0 : List (HloOp τ sig (Elt F))).Forall fun op => op.writes ⊆ (ops_part0_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxHeartbeats 2000000 in
theorem val0_1_main_v1 (V0 : Valuation τ sig (Elt F)) : val0_1 V0 (no_index (Proc.devRef .tc main_v1)) = (points (V0 (Proc.devRef .tc main_arg0))) := by
  unfold val0_1
  simp only [ops_part0_0, TRef.ternary, TRef.unary, TRef.toBuf, TRef.ofBuf, cast_eq]
  after_results_simp
  simp only [val0_main_arg0] <;> rfl
set_option maxHeartbeats 2000000 in
theorem val0_1_main_v20 (V0 : Valuation τ sig (Elt F)) : val0_1 V0 (no_index (Proc.devRef .tc main_v20)) = cmpf .ogt ((clipped (V0 (Proc.devRef .tc main_arg0)))) (broadcastInDim S128x128 ![] bcast_S_S128x128 (constant S_ .f32 0x00000000#32)) := by
  unfold val0_1
  simp only [ops_part0_0, TRef.ternary, TRef.unary, TRef.toBuf, TRef.ofBuf, cast_eq]
  after_results_simp
  simp only [val0_main_arg0] <;> rfl
set_option maxHeartbeats 2000000 in
theorem val0_1_main_v21 (V0 : Valuation τ sig (Elt F)) : val0_1 V0 (no_index (Proc.devRef .tc main_v21)) = Host.sqrt (select (cmpf .ogt ((clipped (V0 (Proc.devRef .tc main_arg0)))) (broadcastInDim S128x128 ![] bcast_S_S128x128 (constant S_ .f32 0x00000000#32))) ((clipped (V0 (Proc.devRef .tc main_arg0)))) (broadcastInDim S128x128 ![] bcast_S_S128x128 (id (constant S_ .f32 0x3F800000#32)))) := by
  unfold val0_1
  simp only [ops_part0_0, TRef.ternary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_cst_5, main_call1_v0, main_call1_v1, main_v22, main_call2_v0, main_call2_v1_0, main_v23, main_call3_v0, main_call3_v1_0, main_v24, main_v25, main_cst_6, main_v26, main_v27, main_cst_7, main_v28, main_v29, main_cst_8, main_v30, main_v31, main_cst_9, main_v32, main_cst_10, main_v33, main_v34, main_v35, main_cst_11, main_v36, main_v37, main_v38]
theorem ops_part0_1_writes : (ops_part0_1 : List (HloOp τ sig (Elt F))).Forall fun op => op.writes ⊆ (ops_part0_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_v1 (V0 : Valuation τ sig (Elt F)) : val0_2 V0 (no_index (Proc.devRef .tc main_v1)) = (points (V0 (Proc.devRef .tc main_arg0))) :=
  (val0_2_keep V0 main_v1 (by decide)).trans (val0_1_main_v1 V0)
set_option maxHeartbeats 2000000 in
theorem val0_2_main_v38 (V0 : Valuation τ sig (Elt F)) : val0_2 V0 (no_index (Proc.devRef .tc main_v38)) = Host.dotGeneral dot_S128x128_S128x1_S128x1_1_0_0_1_n_n none ((dist (V0 (Proc.devRef .tc main_arg0)))) (Host.divf (broadcastInDim S128x1 ![0] bcast_S128_S128x1_0 (Host.divf (Host.reduceAdd (subf (broadcastInDim S128x128 ![] bcast_S_S128x128 (constant S_ .f32 0x3F800000#32)) (Host.divf (mulf (broadcastInDim S128x128 ![] bcast_S_S128x128 (constant S_ .f32 0x40000000#32)) (sitofp .f32 ((Host.sort2 S128x128 1 comparator_i32_i32_d1 ((order (V0 (Proc.devRef .tc main_arg0)))) ((places (F := F)))).2))) (broadcastInDim S128x128 ![] bcast_S_S128x128 (constant S_ .f32 0x42FE0000#32)))) (constant S_ .f32 0x00000000#32) reducesTo_S128x128_S128_d0 h_S_) (broadcastInDim S128 ![] bcast_S_S128 (constant S_ .f32 0x43000000#32)))) (broadcastInDim S128x1 ![] bcast_S_S128x1 (constant S_ .f32 0x43000000#32))) := by
  unfold val0_2
  simp only [ops_part0_1, TRef.binary, TRef.nullary, TRef.ternary, TRef.unary, TRef.toBuf, TRef.ofBuf, cast_eq]
  after_results_simp
  simp only [val0_1_main_v21, val0_1_main_v20] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v39, main_cst_12, main_v40, main_v41, main_cst_13, main_v42, main_v43, main_cst_14]
theorem ops_part0_2_writes : (ops_part0_2 : List (HloOp τ sig (Elt F))).Forall fun op => op.writes ⊆ (ops_part0_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_v1 (V0 : Valuation τ sig (Elt F)) : val1 V0 (no_index (Proc.devRef .tc main_v1)) = (points (V0 (Proc.devRef .tc main_arg0))) :=
  (val1_keep V0 main_v1 (by decide)).trans (val0_2_main_v1 V0)
theorem val1_main_v43 (V0 : Valuation τ sig (Elt F)) : val1 V0 (no_index (Proc.devRef .tc main_v43)) = (raw (V0 (Proc.devRef .tc main_arg0))) := by
  unfold val1
  simp only [ops_part0_2]
  after_results_simp
  simp only [val0_2_main_v38] <;> rfl
theorem val1_main_cst_14 (V0 : Valuation τ sig (Elt F)) : val1 V0 (no_index (Proc.devRef .tc main_cst_14)) = constant S_ .f32 0xFF800000#32 := by
  unfold val1
  simp only [ops_part0_2]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v44, main_v45, main_v46, main_cst_15, main_v47, main_v48, main_cst_16, main_call4_v0, main_call4_v1, main_v49, main_cst_17, main_v50, main_v51, main_cst_18, main_call5_v0, main_call5_v1, main_v52, main_cst_19, main_v53, main_v54, main_v55, main_v56, main_cst_20, main_v57, main_v58, main_call6_v0, main_call6_cst, main_call6_v1, main_v59, main_v60, main_v61, main_cst_21, main_v62, main_v63, main_cst_22, main_call7_v0, main_call7_v1, main_v64, main_cst_23, main_v65, main_v66, main_cst_24, main_call8_v0, main_call8_v1, main_v67, main_cst_25, main_v68, main_v69, main_v70, main_v71, main_v72, main_v73, main_cst_26, main_v74, main_v75]
theorem ops_part1_writes : (ops_part1 : List (HloOp τ sig (Elt F))).Forall fun op => op.writes ⊆ (ops_part1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- At the end the argument is what it was. -/
theorem val2_main_arg0 (V0 : Valuation τ sig (Elt F)) : val2 V0 (no_index (Proc.devRef .tc main_arg0)) = V0 (Proc.devRef .tc main_arg0) :=
  (val2_keep V0 main_arg0 (by decide)).trans (val1_main_arg0 V0)
set_option maxHeartbeats 2000000 in
/-- At the end the result is `result` of the argument. -/
theorem val2_main_v75 (V0 : Valuation τ sig (Elt F)) : val2 V0 (no_index (Proc.devRef .tc main_v75)) = result (V0 (Proc.devRef .tc main_arg0)) := by
  unfold val2
  simp only [ops_part1, TRef.binary, TRef.nullary, TRef.ternary, TRef.unary, TRef.toBuf, TRef.ofBuf, cast_eq]
  after_results_simp
  simp only [val1_main_cst_14, val1_main_v43, val1_main_v1] <;> rfl

/-- The stretches in turn are the whole list of operations. -/
theorem after_ops (V0 : Valuation τ sig (Elt F)) : after ops V0 = val2 V0 := by
  simp only [ops, ops_part0, after_append]
  rfl

/-- On every device, for any float values, from any memory with zero counters: every weakly fair execution of
    @main terminates with its result at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = result (m ((c.tc : Thread nD τ).loc main_arg0))
      ∧ r.2.mem ((c.tc : Thread nD τ).loc main_arg0) = m ((c.tc : Thread nD τ).loc main_arg0) :=
  (θ_run defs _ _).mono (fun _ h c => ⟨(h c main_v75).trans ((congrFun (after_ops (launchContents m c)) (Proc.devRef .tc main_v75)).trans (val2_main_v75 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.ReferenceIdeal.Work

end
-- ==== Proof.Rank.lean ====
/- Sorting places by a key, then sorting again by the places found, counts for every place the places before it. -/
module

public import Idealize.ShloMosaic.Lib.SortPrefix
public import Mathlib.Order.Fin.Basic
public import Mathlib.Order.Interval.Finset.Fin
public import Mathlib.Order.Hom.Set
public import Mathlib.Data.Fintype.Card

@[expose] public section

namespace Cert.Rank

open Idealize.ShloMosaic

variable {n : ℕ} {α : Type} [LinearOrder α]

/-- Place `k` comes before place `j`: its key is smaller, or the keys are equal and it stands further left. -/
def Before (f : Fin n → α) (k j : Fin n) : Prop := f k < f j ∨ (f k = f j ∧ k < j)

instance (f : Fin n → α) (k j : Fin n) : Decidable (Before f k j) := by unfold Before; infer_instance

/-- The order as a truth value. -/
def before (f : Fin n → α) (k j : Fin n) : Bool := decide (f k < f j) || (decide (f k = f j) && decide (k < j))

/-- The truth value says whether the one place comes before the other. -/
theorem before_iff (f : Fin n → α) (k j : Fin n) : before f k j = true ↔ Before f k j := by
  simp [before, Before]

/-- Of two different places one comes before the other. -/
theorem before_total (f : Fin n → α) : StrictTotalBefore (before f) :=
  StrictTotalBefore.of_key_then_position (fun a b => decide (a < b)) f (fun a => by simp)
    (fun a b c h h' => by simp only [decide_eq_true_eq] at h h' ⊢; exact h.trans h')
    (fun a b => by simp only [decide_eq_true_eq]; exact lt_trichotomy a b)

/-- A stable sort by the key alone is the sort by the key and then the place. -/
theorem stableSort_key (f : Fin n → α) (l : List (Fin n)) (hl : l.Pairwise (· < ·)) :
    stableSort (fun k j => decide (f k < f j)) l = stableSort (before f) l := by
  induction l with
  | nil => rfl
  | cons a l ih =>
    obtain ⟨ha, hl⟩ := List.pairwise_cons.mp hl
    unfold stableSort
    rw [ih hl]
    refine insertBefore_congr _ _ a _ fun b hb => ?_
    have hab : a < b := ha b ((perm_stableSort _ l).mem_iff.mp hb)
    simp [before, not_lt.mpr hab.le]

/-- The place a stable sort by the key puts at each position. -/
abbrev sorted (f : Fin n → α) : Fin n → Fin n := sortedFrom fun k j => decide (f k < f j)

/-- The stable sort by the key is the sort by the key and then the place. -/
theorem sorted_eq (f : Fin n → α) : sorted f = sortedFrom (before f) := by
  funext k
  unfold sorted sortedFrom
  have e : sortPositions n (fun k j => decide (f k < f j)) = sortPositions n (before f) :=
    stableSort_key f _ (List.pairwise_lt_finRange n)
  rw [List.get_of_eq e]
  rfl

/-- Positions ascend exactly as the places put there do. -/
theorem sorted_before (f : Fin n → α) (i j : Fin n) : Before f (sorted f i) (sorted f j) ↔ i < j := by
  have hB := before_total f
  have up : ∀ i j : Fin n, i < j → before f (sortedFrom (before f) i) (sortedFrom (before f) j) = true := fun i j h => by
    rcases hB.total _ _ (fun e => h.ne (sortedFrom_injective (before f) e)) with h1 | h1
    · exact h1
    · rw [sortedFrom_noInversion (before f) (before f) hB.asymm (fun _ _ h => h) hB.negTrans i j h] at h1
      exact absurd h1 (by decide)
  rw [sorted_eq, ← before_iff]
  refine ⟨fun h => ?_, up i j⟩
  rcases lt_trichotomy i j with h1 | h1 | h1
  · exact h1
  · rw [h1, hB.irrefl] at h; exact absurd h (by decide)
  · rw [hB.asymm _ _ (up j i h1)] at h; exact absurd h (by decide)

/-- The position a place is sorted to is the number of places before it. -/
theorem card_before (f : Fin n → α) (i : Fin n) :
    (Finset.univ.filter fun k => Before f k (sorted f i)).card = i.val := by
  have hb : Function.Bijective (sorted f) := ⟨sortedFrom_injective _, sortedFrom_surjective _⟩
  have e : (Finset.univ.filter fun k => Before f k (sorted f i)) = (Finset.univ.filter fun j : Fin n => j < i).map (Equiv.ofBijective _ hb).toEmbedding := by
    ext k
    obtain ⟨j, rfl⟩ := hb.2 k
    simp only [Finset.mem_filter, Finset.mem_univ, true_and, Finset.mem_map, Equiv.coe_toEmbedding, Equiv.ofBijective_apply, sorted_before]
    exact ⟨fun h => ⟨j, h, rfl⟩, fun ⟨j', h, e⟩ => hb.1 e ▸ h⟩
  rw [e, Finset.card_map]
  have : (Finset.univ.filter fun j : Fin n => j < i) = Finset.Iio i := by ext; simp
  rw [this, Fin.card_Iio]

/-- Sorting the sorted places undoes the first sort. -/
theorem sorted_sorted (f : Fin n → α) (i : Fin n) : sorted f (sorted (sorted f) i) = i := by
  have mono : StrictMono fun i => sorted f (sorted (sorted f) i) := fun i j h => by
    rcases (sorted_before (sorted f) i j).mpr h with h1 | ⟨h1, h2⟩
    · exact h1
    · exact absurd (sortedFrom_injective _ h1) h2.ne
  have sur : Function.Surjective fun i => sorted f (sorted (sorted f) i) :=
    (sortedFrom_surjective _).comp (sortedFrom_surjective _)
  exact Fin.ext (Fin.coe_orderIso_apply (StrictMono.orderIsoOfSurjective _ mono sur) i)

/-- The sort of the sorted places gives every place the number of places before it. -/
theorem rank_eq (f : Fin n → α) (i : Fin n) :
    (sorted (sorted f) i).val = (Finset.univ.filter fun k => Before f k i).card := by
  rw [← card_before f (sorted (sorted f) i), sorted_sorted]

end Cert.Rank

end
-- ==== Proof.Formula.lean ====
/- The mathematics both programs compute, on the extended reals. -/
module

public import proofs.«01_k».proof.Proof.Rank
public import Idealize.ShloMosaic.PureOps.Ideal
public import Idealize.ShloMosaic.Lib.Pointwise

@[expose] public section

noncomputable section

namespace Cert.Formula

open Idealize.ShloMosaic

variable (x : Fin 131072 → Fin 128 → EReal)

/-- The sum of the squares of column `j`. -/
def squares (j : Fin 128) : EReal := ∑ r, x r j * x r j

/-- The product of columns `i` and `j`. -/
def gram (i j : Fin 128) : EReal := ∑ r, x r i * x r j

/-- The squared distance of two columns, from their squares `s` and products `g`; below zero it is raised to zero. -/
def squaredDistance (s : Fin 128 → EReal) (g : Fin 128 → Fin 128 → EReal) (i j : Fin 128) : EReal :=
  max (s i + s j - Ideal.ofBits .f32 0x40000000#32 * g i j) 0

/-- The distance of two columns. -/
def distance (s : Fin 128 → EReal) (g : Fin 128 → Fin 128 → EReal) (i j : Fin 128) : EReal :=
  if 0 < squaredDistance s g i j then Ideal.sqrt (if 0 < squaredDistance s g i j then squaredDistance s g i j else 1) else 0

/-- The rank of column `j` in row `i` of the distances: how many columns come before it. -/
def rank (d : Fin 128 → Fin 128 → EReal) (i j : Fin 128) : ℕ := (Finset.univ.filter fun k => Rank.Before (d i) k j).card

/-- The weight of column `j`, from the mean of its ranks. -/
def weight (d : Fin 128 → Fin 128 → EReal) (j : Fin 128) : EReal :=
  Ideal.div (1 - Ideal.div (Ideal.ofBits .f32 0x40000000#32 * Ideal.div (∑ i, ((rank d i j : ℝ) : EReal)) (Ideal.ofBits .f32 0x43000000#32))
    (Ideal.ofBits .f32 0x42FE0000#32)) (Ideal.ofBits .f32 0x43000000#32)

/-- Six minus the weighted sum of row `i` of the distances. -/
def score (d : Fin 128 → Fin 128 → EReal) (i : Fin 128) : EReal :=
  Ideal.ofBits .f32 0xBF800000#32 * ∑ j, d i j * weight d j + Ideal.ofBits .f32 0x40C00000#32

/-- The largest of 128 values. -/
def largest (v : Fin 128 → EReal) : EReal := Finset.univ.fold max (Ideal.ofBits .f32 0xFF800000#32) v

/-- One becomes 0.99. -/
def withoutOne (y : EReal) : EReal := if y = 1 then Ideal.ofBits .f32 0x3F7D70A4#32 else y

/-- Zero becomes 0.01. -/
def withoutZero (y : EReal) : EReal := if y = 0 then Ideal.ofBits .f32 0x3C23D70A#32 else y

/-- Log odds plus one half. -/
def logOdds (y : EReal) : EReal := Ideal.log (Ideal.div y (1 - y)) + Ideal.ofBits .f32 0x3F000000#32

/-- One where the value is infinite, else zero. -/
def isInfinite (y : EReal) : EReal := if max y (-y) = Ideal.ofBits .f32 0x7F800000#32 then 1 else 0

/-- Capped at one. -/
def capped (y : EReal) : EReal := if 1 < isInfinite y + y then 1 else y

/-- Raised to zero. -/
def raised (y : EReal) : EReal := if y < 0 then 0 else y

/-- The value put through these steps in turn. -/
def cleaned (v : Fin 128 → EReal) (i : Fin 128) : EReal :=
  raised (capped (logOdds (withoutZero (withoutOne (Ideal.div (v i) (largest v))))))

/-- The values over their sum. -/
def shares (u : Fin 128 → EReal) (i : Fin 128) : EReal := Ideal.div (u i) (∑ k, u k)

/-- The final weights, from the squares and products of the columns. -/
def finalWeight (s : Fin 128 → EReal) (g : Fin 128 → Fin 128 → EReal) : Fin 128 → EReal :=
  shares (cleaned (score (distance s g)))

/-- The result at row `r`. -/
def output (r : Fin 131072) : EReal := ∑ j, x r j * finalWeight (squares x) (gram x) j

/-! ## Reading a maximum and a truth value -/

/-- The largest value, taken over a column. -/
theorem largest_column (v : Fin 128 → EReal) :
    Finset.univ.fold max (Ideal.ofBits .f32 0xFF800000#32) (fun p : Fin 128 × Fin 1 => v p.1) = largest v := by
  unfold largest
  rw [← Finset.univ_map_equiv_to_embedding (Equiv.prodUnique (Fin 128) (Fin 1)), Finset.fold_map]
  rfl

/-- The largest value, taken over a row. -/
theorem largest_row (v : Fin 128 → EReal) :
    Finset.univ.fold max (Ideal.ofBits .f32 0xFF800000#32) (fun p : Fin 1 × Fin 128 => v p.2) = largest v := by
  unfold largest
  rw [← Finset.univ_map_equiv_to_embedding (Equiv.uniqueProd (Fin 128) (Fin 1)), Finset.fold_map]
  rfl

/-- A truth value widened to a word and read as a number. -/
theorem signed_bit (p : Prop) [Decidable p] :
    FloatOps.sitofp (F := Ideal) .f32 (BitVec.setWidth 32 (BitVec.ofBool (decide p))) = if p then (1 : EReal) else 0 := by
  show (((BitVec.toInt _ : ℤ) : ℝ) : EReal) = _
  by_cases hp : p <;> simp [hp]

/-- A truth value read as a number. -/
theorem unsigned_bit (p : Prop) [Decidable p] :
    FloatOps.uitofp (F := Ideal) .f32 (BitVec.ofBool (decide p)) = if p then (1 : EReal) else 0 := by
  show (((BitVec.toNat _ : ℕ) : ℝ) : EReal) = _
  by_cases hp : p <;> simp [hp]

/-! ## The mean of the ranks -/

/-- The word of the constant two. -/
theorem two_eq : Ideal.ofBits .f32 0x40000000#32 = ((2 : ℝ) : EReal) := by
  simp [Ideal.ofBits, Ideal.ieee, -EReal.coe_mul]; norm_num

/-- The word of the number of columns, 128. -/
theorem count_eq : Ideal.ofBits .f32 0x43000000#32 = ((128 : ℝ) : EReal) := by
  simp [Ideal.ofBits, Ideal.ieee, -EReal.coe_mul]; norm_num

/-- The word of the largest rank, 127. -/
theorem last_eq : Ideal.ofBits .f32 0x42FE0000#32 = ((127 : ℝ) : EReal) := by
  simp [Ideal.ofBits, Ideal.ieee, -EReal.coe_mul]; norm_num

/-- A finite sum of reals is the same sum on the extended reals. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f _

/-- The mean of one minus twice the rank over 127 is one minus twice the mean rank over 127. -/
theorem mean_eq (k : Fin 128 → ℕ) :
    Ideal.div (∑ i, (1 - Ideal.div (Ideal.ofBits .f32 0x40000000#32 * ((k i : ℝ) : EReal)) (Ideal.ofBits .f32 0x42FE0000#32))) (Ideal.ofBits .f32 0x43000000#32)
      = 1 - Ideal.div (Ideal.ofBits .f32 0x40000000#32 * Ideal.div (∑ i, ((k i : ℝ) : EReal)) (Ideal.ofBits .f32 0x43000000#32)) (Ideal.ofBits .f32 0x42FE0000#32) := by
  have h128 : (128 : ℝ) ≠ 0 := by norm_num
  have h127 : (127 : ℝ) ≠ 0 := by norm_num
  rw [two_eq, count_eq, last_eq]
  simp only [Ideal.div_coe h128, Ideal.div_coe h127, ← EReal.coe_one, ← coe_sum, ← EReal.coe_mul, ← EReal.coe_sub]
  refine congrArg _ ?_
  rw [Finset.sum_sub_distrib, ← Finset.sum_mul, ← Finset.mul_sum]
  simp only [Finset.sum_const, Finset.card_univ, Fintype.card_fin, nsmul_eq_mul]
  ring

end Cert.Formula

end
-- ==== Proof.RefFormula.lean ====
/- The reference's result, entry by entry, from its argument. -/
module

public import proofs.«01_k».proof.Proof.RefStages
public import proofs.«01_k».proof.Proof.Formula
public import Idealize.ShloMosaic.Lib.WordCmp

@[expose] public section

set_option maxRecDepth 16384

noncomputable section

namespace Cert.ReferenceIdeal.Work

open Cert.ReferenceIdeal Cert.ReferenceIdeal.Gen Idealize.ShloMosaic Idealize.ShloMosaic.TcCoe Idealize.SL.Sem Idealize.ShloMosaic.StableHlo

variable (a : FVec Ideal S1x131072x128 .f32)

/-- The reference's argument as a matrix of 131072 rows. -/
def entries : Fin 131072 → Fin 128 → EReal := fun r j => a (ix3 0 r j)

/-- The reference's squares are the columns' squares. -/
theorem squares_at (i : Fin 128) : (squares (F := Ideal) a : FVec Ideal S128 .f32) (ix1 i) = Formula.squares (entries a) i := by
  pointwise [squares, points]
  rfl

/-- The reference's distances are the columns' distances. -/
theorem dist_at (i j : Fin 128) : (dist (F := Ideal) a : FVec Ideal S128x128 .f32) (ix2 i j) = Formula.distance (Formula.squares (entries a)) (Formula.gram (entries a)) i j := by
  pointwise [dist, clipped, points, id_eq]
  have e : ∀ i, squares (F := Ideal) a (ix1 i) = Formula.squares (entries a) i := squares_at a
  rw [e, e]
  rfl

/-! ## The two sorts -/

/-- The second operand of a sort of rows carries the places the keys are sorted from. -/
theorem sort_at {α β : Type} (cmp : α × β → α × β → BitVec 1) (x : S128x128.Idx → α) (y : S128x128.Idx → β) (i j : Fin 128) :
    (Host.sort2 S128x128 1 cmp x y).2 (ix2 i j)
      = y (ix2 i (sortedFrom (fun k k' : Fin 128 => cmp (x (ix2 i k), y (ix2 i k)) (x (ix2 i k'), y (ix2 i k')) == 1#1) j)) := by
  have e : ∀ k : Fin 128, (ix2 i j : S128x128.Idx).along 1 k = ix2 i k := fun k => by
    funext b
    match b with
    | ⟨0, _⟩ => rfl
    | ⟨1, _⟩ => rfl
  unfold Host.sort2
  rw [dif_pos (by decide)]
  refine (congrArg y (e _)).trans ?_
  refine congrArg (fun f => y (ix2 i (sortedFrom f j))) ?_
  funext k k'
  exact congrArg₂ (fun p q => cmp (x p, y p) (x q, y q) == 1#1) (e k) (e k')

/-- The comparator of distances is their order. -/
theorem float_order (l r : Ideal .f32 × BitVec 32) : (comparator_f32_i32_d1 l r == 1#1) = decide (l.1 < r.1) := by
  obtain ⟨l1, l2⟩ := l
  obtain ⟨r1, r2⟩ := r
  pointwise [comparator_f32_i32_d1]
  have z : ∀ u : EReal, (if u = 0 then 0 else u) = u := fun u => by
    split
    · next h => exact h.symm
    · rfl
  simp only [ne_eq, not_true_eq_false, if_false, z]
  show (BitVec.ofBool (decide (l1 < r1)) == 1#1) = _
  by_cases h : l1 < r1 <;> simp [h]

/-- Every row of places counts from zero. -/
theorem places_at (i j : Fin 128) : places (F := Ideal) (ix2 i j) = BitVec.ofNat 32 j.val := by
  pointwise [places]

/-- The places in ascending order of the distances. -/
theorem order_at (i j : Fin 128) :
    order (F := Ideal) a (ix2 i j) = BitVec.ofNat 32 (Rank.sorted (Formula.distance (Formula.squares (entries a)) (Formula.gram (entries a)) i) j).val := by
  unfold order
  rw [sort_at, places_at]
  simp only [float_order, dist_at]

/-- Sorted again they are the ranks. -/
theorem rank_at (i j : Fin 128) :
    (Host.sort2 S128x128 1 comparator_i32_i32_d1 (order (F := Ideal) a) (places (F := Ideal))).2 (ix2 i j)
      = BitVec.ofNat 32 (Formula.rank (Formula.distance (Formula.squares (entries a)) (Formula.gram (entries a))) i j) := by
  rw [sort_at]
  simp only [order_at]
  have e : ∀ (p : Fin 128 → Fin 128) (q : Fin 128 → BitVec 32), (fun k k' : Fin 128 => comparator_i32_i32_d1 (BitVec.ofNat 32 (p k).val, q k) (BitVec.ofNat 32 (p k').val, q k') == 1#1)
      = fun k k' => decide (p k < p k') := fun p q => by
    funext k k'
    show (IntOp.cmpi .slt (BitVec.ofNat 32 (p k).val) (BitVec.ofNat 32 (p k').val) == 1#1) = _
    rw [WordCmp.cmpi_slt_ofNat (by omega) (by omega)]
    by_cases h : p k < p k' <;> simp [h, Fin.lt_def] <;> simpa [Fin.lt_def] using h
  rw [e]
  exact congrArg (BitVec.ofNat 32) (Rank.rank_eq _ j)

/-- The rank as a number. -/
theorem rank_value (d : Fin 128 → Fin 128 → EReal) (i j : Fin 128) :
    FloatOps.sitofp (F := Ideal) .f32 (BitVec.ofNat 32 (Formula.rank d i j)) = ((Formula.rank d i j : ℝ) : EReal) := by
  have h : Formula.rank d i j ≤ 128 := (Finset.card_le_univ _).trans (le_of_eq (Fintype.card_fin 128))
  show (((BitVec.toInt _ : ℤ) : ℝ) : EReal) = _
  have e : (BitVec.ofNat 32 (Formula.rank d i j)).toInt = (Formula.rank d i j : ℤ) := by
    rw [BitVec.toInt_eq_toNat_of_lt] <;> rw [BitVec.toNat_ofNat, Nat.mod_eq_of_lt] <;> omega
  rw [e]
  norm_cast

/-! ## From the ranks to the result -/

/-- The raw weight of column `i` is its score. -/
theorem raw_at (i : Fin 128) : raw (F := Ideal) a (ix2 0 i) = Formula.score (Formula.distance (Formula.squares (entries a)) (Formula.gram (entries a))) i := by
  pointwise [raw]
  simp only [rank_at, rank_value]
  simp only [Formula.mean_eq, dist_at]
  rfl

/-- The scaled weight is the score over the largest score. -/
theorem scaled_at (i : Fin 128) : scaled (F := Ideal) a (ix2 0 i)
    = Ideal.div (Formula.score (Formula.distance (Formula.squares (entries a)) (Formula.gram (entries a))) i)
      (Formula.largest (Formula.score (Formula.distance (Formula.squares (entries a)) (Formula.gram (entries a))))) := by
  have e : (fun k : Fin 1 × Fin 128 => raw (F := Ideal) a (ix2 k.1 k.2)) = fun k => Formula.score (Formula.distance (Formula.squares (entries a)) (Formula.gram (entries a))) k.2 := by
    funext ⟨k, l⟩
    obtain rfl := Subsingleton.elim k 0
    exact raw_at a l
  pointwise [scaled]
  rw [raw_at, e, Formula.largest_row]

/-- One is replaced by 0.99. -/
theorem noOne_at (i : Fin 128) : noOne (F := Ideal) a (ix2 0 i) = Formula.withoutOne (scaled (F := Ideal) a (ix2 0 i)) := by
  pointwise [noOne, id_eq]
  rfl

/-- Zero is replaced by 0.01. -/
theorem noZero_at (i : Fin 128) : noZero (F := Ideal) a (ix2 0 i) = Formula.withoutZero (noOne (F := Ideal) a (ix2 0 i)) := by
  pointwise [noZero, id_eq]
  rfl

/-- The log odds plus one half. -/
theorem logit_at (i : Fin 128) : logit (F := Ideal) a (ix2 0 i) = Formula.logOdds (noZero (F := Ideal) a (ix2 0 i)) := by
  pointwise [logit, id_eq]
  rfl

/-- The cap at one. -/
theorem capped_at (i : Fin 128) : capped (F := Ideal) a (ix2 0 i) = Formula.capped (logit (F := Ideal) a (ix2 0 i)) := by
  pointwise [capped, id_eq]
  rw [Formula.unsigned_bit]
  rfl

/-- Negative weights become zero. -/
theorem weights_at (i : Fin 128) : weights (F := Ideal) a (ix2 0 i) = Formula.raised (capped (F := Ideal) a (ix2 0 i)) := by
  pointwise [weights, id_eq]
  rfl

/-- The reference's result at row `r` is the formula's output of its argument. -/
theorem result_at (r : Fin 131072) : result (F := Ideal) a (ix2 r 0) = Formula.output (entries a) r := by
  have e : ∀ k, weights (F := Ideal) a (ix2 0 k) = Formula.cleaned (Formula.score (Formula.distance (Formula.squares (entries a)) (Formula.gram (entries a)))) k := fun k => by
    rw [weights_at, capped_at, logit_at, noZero_at, noOne_at, scaled_at]
    rfl
  pointwise [result, points]
  simp only [Finset.univ_unique, Finset.sum_singleton, Fin.default_eq_zero, e]
  rfl

end Cert.ReferenceIdeal.Work

end
-- ==== Proof.Hits.lean ====
/- The ranks the kernel counts: one step for every column, and their sum. -/
module

public import proofs.«01_k».proof.Proof.Blocks
public import proofs.«01_k».proof.Proof.Formula
public import Idealize.ShloMosaic.Lib.WordCmp

@[expose] public section

set_option maxRecDepth 16384

noncomputable section

namespace Cert.KernelIdeal.Work

open Cert.KernelIdeal Cert.KernelIdeal.Gen
open Idealize.ShloMosaic Idealize.ShloMosaic.TcCoe Idealize.ShloMosaic.Tactic

variable {F : FTy → Type} [FloatOps F]

/-- Every column can be cut out. -/
theorem column_slice (k : ℕ) : S128x128.Slices ![0, k % 128] S128x1 := by
  have h : k % 128 < 128 := Nat.mod_lt _ (by decide)
  generalize k % 128 = n at h
  have key : ∀ n : Fin 128, S128x128.Slices ![0, n.val] S128x1 := by decide
  exact key ⟨n, h⟩

/-- Column `k` of the distances, in every column. -/
def column (d : FVec F S128x128 .f32) (k : ℕ) : FVec F S128x128 .f32 :=
  broadcastTo S128x128 (extractStridedSlice S128x1 ![0, k % 128] d (column_slice k)) broadcasts_S128x1_S128x128

/-- One where column `k` comes before the entry's own column. -/
def hit (d : FVec F S128x128 .f32) (k : ℕ) : FVec F S128x128 .f32 :=
  sitofp .f32 (extui 32 (ori (cmpf .olt (column d k) d) (andi (cmpf .oeq (column d k) d) (cmpi .sgt cols (broadcast S128x128 (BitVec.ofNat 32 k))))) natLt_1_32)

/-- The ranks counted over the first `n` columns. -/
def upto (d : FVec F S128x128 .f32) : ℕ → FVec F S128x128 .f32
  | 0 => broadcast S128x128 (Scalar.ofBits .f32 0x00000000#32)
  | n + 1 => addf (upto d n) (hit d n)

/-- The kernel's ranks over the first 126 columns, one step for every column. -/
theorem upto126_eq (g : Vec F S128x128 .f32) (s : Vec F S1x128 .f32) : upto126 g s = upto (k0_pay12 g s) 126 := rfl

/-- A truth value as an extended real. -/
theorem bit_value (p q r : Prop) [Decidable p] [Decidable q] [Decidable r] :
    FloatOps.sitofp (F := Ideal) .f32 (BitVec.setWidth 32 (IntOp.ori (BitVec.ofBool (decide p)) (IntOp.andi (BitVec.ofBool (decide q)) (BitVec.ofBool (decide r)))))
      = if p ∨ (q ∧ r) then (1 : EReal) else 0 := by
  show (((BitVec.toInt _ : ℤ) : ℝ) : EReal) = _
  by_cases hp : p <;> by_cases hq : q <;> by_cases hr : r <;> simp [hp, hq, hr, IntOp.ori, IntOp.andi]

/-- The step of column `k` adds one exactly where column `k` comes before. -/
theorem hit_at (d : FVec Ideal S128x128 .f32) (k i j : Fin 128) :
    hit d k.val (ix2 i j) = if Rank.Before (fun l => d (ix2 i l)) k j then (1 : EReal) else 0 := by
  unfold hit column
  pointwise []
  have hk : (⟨k.val % 128, Nat.mod_lt _ (by decide)⟩ : Fin 128) = k := Fin.ext (Nat.mod_eq_of_lt k.isLt)
  have hc : IntOp.cmpi .sgt (BitVec.ofNat 32 j.val) (BitVec.ofNat 32 k.val) = BitVec.ofBool (decide (k < j)) := by
    have hj := j.isLt
    have hk := k.isLt
    rw [WordCmp.cmpi_sgt_ofNat (by omega) (by omega)]
    rfl
  rw [hk, hc]
  exact bit_value _ _ _

/-- All 128 steps count the rank. -/
theorem upto_at (d : FVec Ideal S128x128 .f32) (i j : Fin 128) :
    upto d 128 (ix2 i j) = ((Formula.rank (fun i j => d (ix2 i j)) i j : ℝ) : EReal) := by
  have step : ∀ n (h : n ≤ 128), upto d n (ix2 i j) = ∑ k : Fin n, if Rank.Before (fun l => d (ix2 i l)) (k.castLE h) j then (1 : EReal) else 0 := by
    intro n
    induction n with
    | zero => intro h; pointwise [upto]; rfl
    | succ n ih =>
      intro h
      rw [Fin.sum_univ_castSucc]
      refine (show upto d (n + 1) (ix2 i j) = upto d n (ix2 i j) + hit d n (ix2 i j) from rfl).trans ?_
      rw [ih (by omega)]
      exact congrArg _ (hit_at d ⟨n, h⟩ i j)
  rw [step 128 le_rfl]
  unfold Formula.rank
  rw [Finset.card_filter, Nat.cast_sum, Formula.coe_sum]
  refine Finset.sum_congr rfl fun k _ => ?_
  show (if Rank.Before _ k j then (1 : EReal) else 0) = _
  split <;> simp

end Cert.KernelIdeal.Work

end
-- ==== Proof.Weights.lean ====
/- The kernel's weights and output block, entry by entry. -/
module

public import proofs.«01_k».proof.Proof.Hits

@[expose] public section

set_option maxRecDepth 16384

noncomputable section

namespace Cert.KernelIdeal.Work

open Cert.KernelIdeal Cert.KernelIdeal.Gen
open Idealize.ShloMosaic Idealize.ShloMosaic.TcCoe Idealize.ShloMosaic.Tactic

variable {F : FTy → Type} [FloatOps F]

/-- The mask of the diagonal. -/
theorem diagonal_bit (i k : Fin 128) : IntOp.cmpi .eq (BitVec.ofNat 32 i.val) (BitVec.ofNat 32 k.val) = BitVec.ofBool (decide (i = k)) := by
  have hi := i.isLt
  have hk := k.isLt
  rw [WordCmp.cmpi_eq_ofNat (by omega) (by omega)]
  simp only [Fin.ext_iff]

/-- A sum of entries masked to one place is the entry there. -/
theorem masked_sum (f : Fin 128 → EReal) (p : Fin 128 → Prop) [DecidablePred p] (i : Fin 128) (hp : ∀ k, p k ↔ k = i) :
    ∑ k : Fin 128, Scalar.select (BitVec.ofBool (decide (p k))) (f k) 0 = f i := by
  have e : ∀ k : Fin 128, Scalar.select (BitVec.ofBool (decide (p k))) (f k) 0 = if k = i then f k else 0 := fun k => by
    by_cases h : k = i <;> simp [h, hp, Scalar.select]
  rw [Finset.sum_congr rfl fun k _ => e k]
  simp

/-- The kernel's distances are the distances of its squares and products. -/
theorem distance_at (g : FVec Ideal S128x128 .f32) (s : FVec Ideal S1x128 .f32) (i j : Fin 128) :
    k0_pay12 (F := Ideal) g s (ix2 i j) = Formula.distance (fun j => s (ix2 0 j)) (fun i j => g (ix2 i j)) i j := by
  pointwise [k0_pay12, k0_pay11]
  simp only [diagonal_bit]
  rw [masked_sum (fun k => s (ix2 0 k)) _ i fun k => eq_comm]
  rfl

/-- The scores, from the distances and the ranks. -/
def scores (d r : FVec F S128x128 .f32) : FVec F S128x1 .f32 :=
  addf (mulf (broadcast S128x1 (Scalar.ofBits .f32 0xBF800000#32)) (shapeCast S128x1 (multiReduction .add [1] S128
    (mulf (extf .f32 (truncf .bf16 d bitsLt_bf16_f32) bitsLt_bf16_f32)
      (broadcastTo S128x128 (extf .f32 (truncf .bf16 (divf (subf (broadcast S1x128 (Scalar.ofBits .f32 0x3F800000#32))
        (divf (mulf (broadcast S1x128 (Scalar.ofBits .f32 0x40000000#32)) (divf (shapeCast S1x128 (multiReduction .add [0] S128 r 0x00000000#32 reduces_S128x128_S128_2 (.inl rfl) rfl) shapeCasts_S128_S1x128) (broadcast S1x128 (Scalar.ofBits .f32 0x43000000#32))))
          (broadcast S1x128 (Scalar.ofBits .f32 0x42FE0000#32)))) (broadcast S1x128 (Scalar.ofBits .f32 0x43000000#32))) bitsLt_bf16_f32) bitsLt_bf16_f32) broadcasts_S1x128_S128x128))
    0x00000000#32 reduces_S128x128_S128 (.inl rfl) rfl) shapeCasts_S128_S128x1)) (broadcast S128x1 (Scalar.ofBits .f32 0x40C00000#32))

/-- The kernel's scores are those of the ranks over all 128 columns. -/
theorem scores_eq (d : FVec F S128x128 .f32) : k0_pay100 cols d (upto d 126) = scores d (upto d 128) := rfl

/-- Entry by entry they are the scores of the distances. -/
theorem scores_at (d : FVec Ideal S128x128 .f32) (i : Fin 128) :
    scores d (upto d 128) (ix2 i 0) = Formula.score (fun i j => d (ix2 i j)) i := by
  pointwise [scores]
  simp only [upto_at]
  rfl

/-! ## From the scores to the shares -/

/-- The largest score, in every entry. -/
def top (v : FVec F S128x1 .f32) : FVec F S128x1 .f32 :=
  broadcast S128x1 (extractAt ![0, 0, 0] (shapeCast S1x1x1 (multiReduction .maximumf [1, 2] S1 (shapeCast S1x128x1 v shapeCasts_S128x1_S1x128x1) 0xFF800000#32 reduces_S1x128x1_S1 (.inl rfl) rfl) shapeCasts_S1_S1x1x1) inpos_S1x1x1_p0_0_0)

/-- One becomes 0.99. -/
def noOne (y : FVec F S128x1 .f32) : FVec F S128x1 .f32 :=
  select (cmpf .oeq y (broadcast S128x1 (Scalar.ofBits .f32 0x3F800000#32))) (broadcast S128x1 (Scalar.ofBits .f32 0x3F7D70A4#32)) y

/-- Zero becomes 0.01. -/
def noZero (y : FVec F S128x1 .f32) : FVec F S128x1 .f32 :=
  select (cmpf .oeq y (broadcast S128x1 (Scalar.ofBits .f32 0x00000000#32))) (broadcast S128x1 (Scalar.ofBits .f32 0x3C23D70A#32)) y

/-- Log odds plus one half. -/
def logit (y : FVec F S128x1 .f32) : FVec F S128x1 .f32 :=
  addf (log (divf y (subf (broadcast S128x1 (Scalar.ofBits .f32 0x3F800000#32)) y))) (broadcast S128x1 (Scalar.ofBits .f32 0x3F000000#32))

/-- Capped at one. -/
def cap (y : FVec F S128x1 .f32) : FVec F S128x1 .f32 :=
  select (cmpf .ogt (addf (sitofp .f32 (extui 32 (cmpf .oeq (absf y) (broadcast S128x1 (Scalar.ofBits .f32 0x7F800000#32))) natLt_1_32)) y) (broadcast S128x1 (Scalar.ofBits .f32 0x3F800000#32)))
    (broadcast S128x1 (Scalar.ofBits .f32 0x3F800000#32)) y

/-- Raised to zero. -/
def raise (y : FVec F S128x1 .f32) : FVec F S128x1 .f32 :=
  select (cmpf .olt y (broadcast S128x1 (Scalar.ofBits .f32 0x00000000#32))) (broadcast S128x1 (Scalar.ofBits .f32 0x00000000#32)) y

/-- The column over its sum, laid out as a row through the diagonal mask. -/
def shareRow (y : FVec F S128x1 .f32) : FVec F S1x128 .f32 :=
  shapeCast S1x128 (multiReduction .add [0] S128 (select k0_pay11 (broadcastTo S128x128 (shapeCast S128x1 (divf y (broadcast S128x1 (extractAt ![0, 0, 0] (shapeCast S1x1x1 (multiReduction .add [1, 2] S1 (shapeCast S1x128x1 y shapeCasts_S128x1_S1x128x1) 0x00000000#32 reduces_S1x128x1_S1 (.inl rfl) rfl) shapeCasts_S1_S1x1x1) inpos_S1x1x1_p0_0_0))) shapeCasts_S128x1_S128x1) broadcasts_S128x1_S128x128)
    (broadcast S128x128 (Scalar.ofBits .f32 0x00000000#32))) 0x00000000#32 reduces_S128x128_S128_2 (.inl rfl) rfl) shapeCasts_S128_S1x128

/-- The kernel's weights are these steps in turn. -/
theorem weightRow_eq (g : Vec F S128x128 .f32) (s : Vec F S1x128 .f32) (v : FVec F S128x1 .f32) (hv : v = scores (k0_pay12 g s) (upto (k0_pay12 g s) 128)) :
    weightRow g s = shareRow (raise (cap (logit (noZero (noOne (divf v (top v))))))) := by
  unfold weightRow
  rw [upto126_eq, show k0_pay101 cols (k0_pay12 g s) (upto (k0_pay12 g s) 126) = shapeCast S1x128x1 (k0_pay100 cols (k0_pay12 g s) (upto (k0_pay12 g s) 126)) shapeCasts_S128x1_S1x128x1 from rfl,
    scores_eq, ← hv]
  rfl

/-- The maximum of a column. -/
theorem top_at (v : FVec Ideal S128x1 .f32) (i : Fin 128) : top v (ix2 i 0) = Formula.largest fun k => v (ix2 k 0) := by
  pointwise [top]
  exact Formula.largest_column fun k => v (ix2 k 0)

/-- One is replaced by 0.99. -/
theorem noOne_at (y : FVec Ideal S128x1 .f32) (i : Fin 128) : noOne y (ix2 i 0) = Formula.withoutOne (y (ix2 i 0)) := by
  pointwise [noOne]
  rfl

/-- Zero is replaced by 0.01. -/
theorem noZero_at (y : FVec Ideal S128x1 .f32) (i : Fin 128) : noZero y (ix2 i 0) = Formula.withoutZero (y (ix2 i 0)) := by
  pointwise [noZero]
  rfl

/-- The log odds plus one half. -/
theorem logit_at (y : FVec Ideal S128x1 .f32) (i : Fin 128) : logit y (ix2 i 0) = Formula.logOdds (y (ix2 i 0)) := by
  pointwise [logit]
  rfl

/-- The cap at one. -/
theorem cap_at (y : FVec Ideal S128x1 .f32) (i : Fin 128) : cap y (ix2 i 0) = Formula.capped (y (ix2 i 0)) := by
  pointwise [cap]
  rw [Formula.signed_bit]
  rfl

/-- Negative weights become zero. -/
theorem raise_at (y : FVec Ideal S128x1 .f32) (i : Fin 128) : raise y (ix2 i 0) = Formula.raised (y (ix2 i 0)) := by
  pointwise [raise]
  rfl

/-- The weights over their sum, laid out as a row. -/
theorem shareRow_at (y : FVec Ideal S128x1 .f32) (i : Fin 128) : shareRow y (ix2 0 i) = Formula.shares (fun k => y (ix2 k 0)) i := by
  pointwise [shareRow, k0_pay11]
  simp only [diagonal_bit]
  rw [masked_sum (fun x => Ideal.div (y (ix2 x 0)) _) _ i fun k => Iff.rfl]
  simp only [Finset.univ_unique, Finset.sum_singleton]
  rfl

/-- The kernel's weights are the final weights of its squares and products. -/
theorem weightRow_at (g : FVec Ideal S128x128 .f32) (s : FVec Ideal S1x128 .f32) (j : Fin 128) :
    weightRow (F := Ideal) g s (ix2 0 j) = Formula.finalWeight (fun j => s (ix2 0 j)) (fun i j => g (ix2 i j)) j := by
  refine (congrFun (weightRow_eq (F := Ideal) g s _ rfl) _).trans ((shareRow_at _ _).trans ?_)
  unfold Formula.finalWeight
  refine congrArg (fun u => Formula.shares u j) (funext fun k => ?_)
  rw [raise_at, cap_at, logit_at, noZero_at, noOne_at]
  have e : ∀ k, scores (k0_pay12 (F := Ideal) g s) (upto (k0_pay12 (F := Ideal) g s) 128) (ix2 k 0)
      = Formula.score (Formula.distance (fun j => s (ix2 0 j)) (fun i j => g (ix2 i j))) k := fun k =>
    (scores_at _ k).trans (congrArg (fun d => Formula.score d k) (funext fun i => funext fun j => distance_at g s i j))
  have q : divf (scores (k0_pay12 (F := Ideal) g s) (upto (k0_pay12 (F := Ideal) g s) 128)) (top (scores (k0_pay12 (F := Ideal) g s) (upto (k0_pay12 (F := Ideal) g s) 128))) (ix2 k 0)
      = Ideal.div (Formula.score (Formula.distance (fun j => s (ix2 0 j)) (fun i j => g (ix2 i j))) k)
        (Formula.largest (Formula.score (Formula.distance (fun j => s (ix2 0 j)) (fun i j => g (ix2 i j))))) := by
    pointwise []
    rw [top_at, e, funext e]
  rw [q]
  rfl

end Cert.KernelIdeal.Work

end
-- ==== Proof.Result.lean ====
/- What the kernel's run leaves in its result. -/
module

public import proofs.«01_k».proof.Proof.Region
public import Idealize.ShloMosaic.Lib.Pipeline.ValueKit

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The output window is at the start of its array at every point. -/
theorem out_index : ∀ t : Fin cfg0.N, win0_1.index t = ![0, 0] := (by decide +kernel : ∀ t : Fin grid0.N, _)

/-- The output array ends as what the last point stored. -/
theorem final_array (c : Dev nD) : (dats m 0 c).arrAt 1 cfg0.N = finalOut m c := by
  refine (dats m 0 c).arrAt_eq_of_after_last 1 t0_15 (by decide +kernel) _ fun j => ?_
  rw [after_out]
  blk_simp [out_index t0_15]
  exact congrArg (finalOut m c) (funext fun a => rfl)

/-- After the pipeline the result is the output array, reshaped to a column. -/
theorem result_read (c : Dev nD) : Pipeline.afterTail₀ cfgs (dats m) 0 (V0 m) [hostOps1] c main_v2
    = shapeCast S131072x1 (finalOut m c) shapeCasts_S1x131072_S131072x1 := by
  have e : Pipeline.afterTail₀ cfgs (dats m) 0 (V0 m) [hostOps1] c main_v2
      = fun i => shapeCast S131072x1 (Pipeline.withArrays spec0 c (V0 m c) (fun w => (dats m 0 c).arrAt w cfg0.N) main_v1) shapeCasts_S1x131072_S131072x1 i := by
    unfold Pipeline.afterTail₀
    simp only [hostOps1, List.flatten_cons, List.flatten_nil, List.append_nil, StableHlo.after_cons, StableHlo.after_nil]
    exact StableHlo.reshape_result _ _ _ _ _ _ _
  rw [e]
  have w : Pipeline.withArrays spec0 c (V0 m c) (fun w => (dats m 0 c).arrAt w cfg0.N) main_v1 = finalOut m c :=
    (Pipeline.withArrays_arr spec0 launch0.win.arr_inj c (V0 m c) _ 1).trans (final_array m c)
  rw [w]

set_option backward.isDefEq.respectTransparency.types false in
/-- The kernel runs to its end with its result the reshaped output block and its argument unchanged. -/
theorem run_value : θ_run defs (onTc (τ := τ) (main (F := F))) ⟨m, fun _ => 0, ρ⟩ (fun r => ∀ c : Dev nD,
      r.2.mem ((c.tc : Thread nD τ).loc main_v2) = shapeCast S131072x1 (finalOut m c) shapeCasts_S1x131072_S131072x1
      ∧ r.2.mem ((c.tc : Thread nD τ).loc main_arg0) = m ((c.tc : Thread nD τ).loc main_arg0)) :=
  (θ_run defs _ _).mono (fun r h c => ⟨((h.1.1 c).2 main_v2 (by decide)).trans (result_read m c), h.2.1 c⟩)
    (θ_run_and (run_main m ρ) (quiescent m ρ))

end Cert.KernelIdeal.Work

end
-- ==== Proof.Value.lean ====
/- The kernel's result, entry by entry, from its argument. -/
module

public import proofs.«01_k».proof.Proof.Weights
public import proofs.«01_k».proof.Proof.Result

@[expose] public section

set_option maxRecDepth 16384

noncomputable section

namespace Cert.KernelIdeal.Work

open Cert.KernelIdeal Cert.KernelIdeal.Gen
open Idealize.ShloMosaic Idealize.ShloMosaic.TcCoe Idealize.ShloMosaic.Tactic

variable (m : (ℓ : Loc nD τ sig) → Buf (Elt Ideal) ℓ)

/-- The kernel's argument as a matrix of 131072 rows. -/
def entries (c : Dev nD) : Fin 131072 → Fin 128 → EReal := fun r j =>
  (show FVec Ideal S1x131072x128 .f32 from m ((c.tc : Thread nD τ).loc main_arg0)) (ix3 0 r j)

/-- A row of a block is a row of the argument. -/
theorem row_lt (t : Fin cfg0.N) (r : Fin 8192) : t.val * 8192 + r.val < 131072 := by
  have h := t.isLt
  have e : cfg0.N = 16 := N_0
  omega

/-- The input window is at block `t` of the rows. -/
theorem in_index : ∀ t : Fin cfg0.N, win0_0.index t = ![t.val, 0] := (by decide +kernel : ∀ t : Fin grid0.N, _)

/-- The pipeline's input array is the argument without its unit axis. -/
theorem input_at (c : Dev nD) (y : S131072x128.Idx) : V m c main_v0 y = entries m c (y 0) (y 1) := by
  have e : V m c main_v0 = fun y => shapeCast S131072x128 (show FVec Ideal S1x131072x128 .f32 from m ((c.tc : Thread nD τ).loc main_arg0)) shapeCasts_S1x131072x128_S131072x128 y := by
    show StableHlo.after [hostOps0].flatten _ _ = _
    simp only [hostOps0, List.flatten_cons, List.flatten_nil, List.append_nil, StableHlo.after_cons, StableHlo.after_nil]
    exact StableHlo.reshape_result _ _ _ _ _ _ _
  rw [e]
  idx_vars y
  pointwise [entries]

/-- Block `t` holds rows `8192 t` and on of the argument. -/
theorem rows_at (c : Dev nD) (t : Fin cfg0.N) (r : Fin 8192) (j : Fin 128) :
    (rows m c t : FVec Ideal S8192x128 .f32) (ix2 r j) = entries m c ⟨t.val * 8192 + r.val, row_lt t r⟩ j := by
  have e : rows m c t (ix2 r j) = V m c main_v0 (ix2 ⟨t.val * 8192 + r.val, row_lt t r⟩ j) := by
    unfold rows
    blk_ext [iblk, in_index t]
  exact e.trans (input_at m c _)

/-- The products of the columns of one block. -/
theorem pay6_at (x : FVec Ideal S8192x128 .f32) (i j : Fin 128) : k0_pay6 (F := Ideal) x (ix2 i j) = ∑ r : Fin 8192, x (ix2 r i) * x (ix2 r j) := by
  pointwise [k0_pay6, k0_pay4, k0_pay2, k0_pay1]

/-- The squares of the columns of one block. -/
theorem pay7_at (x : FVec Ideal S8192x128 .f32) (j : Fin 128) : k0_pay7 (F := Ideal) x (ix2 0 j) = ∑ r : Fin 8192, x (ix2 r j) * x (ix2 r j) := by
  pointwise [k0_pay7, k0_pay5, k0_pay1]

/-- The products of one block added to what was there. -/
theorem pay8_at (x : FVec Ideal S8192x128 .f32) (v : FVec Ideal S128x128 .f32) (i j : Fin 128) :
    k0_pay8 (F := Ideal) x v (ix2 i j) = v (ix2 i j) + ∑ r : Fin 8192, x (ix2 r i) * x (ix2 r j) := by
  pointwise [k0_pay8, k0_pay4, k0_pay2, k0_pay1]

/-- The squares of one block added to what was there. -/
theorem pay9_at (x : FVec Ideal S8192x128 .f32) (v : FVec Ideal S1x128 .f32) (j : Fin 128) :
    k0_pay9 (F := Ideal) x v (ix2 0 j) = v (ix2 0 j) + ∑ r : Fin 8192, x (ix2 r j) * x (ix2 r j) := by
  pointwise [k0_pay9, k0_pay5, k0_pay1]

/-- The cached block is the block. -/
theorem pay3_at (x : FVec Ideal S8192x128 .f32) (y : S8192x128.Idx) : k0_pay3 (F := Ideal) x y = x y := by
  idx_vars y
  pointwise [k0_pay3, k0_pay2, k0_pay1]

/-- A block's products of columns `i` and `j`, summed. -/
def blockGram (c : Dev nD) (i j : Fin 128) (t : Fin cfg0.N) : EReal :=
  ∑ r : Fin 8192, entries m c ⟨t.val * 8192 + r.val, row_lt t r⟩ i * entries m c ⟨t.val * 8192 + r.val, row_lt t r⟩ j

/-- The column products of block `t`, from the argument. -/
theorem blockGram_eq (c : Dev nD) (i j : Fin 128) (t : Fin cfg0.N) :
    ∑ r : Fin 8192, (rows m c t : FVec Ideal S8192x128 .f32) (ix2 r i) * (rows m c t : FVec Ideal S8192x128 .f32) (ix2 r j) = blockGram m c i j t :=
  Finset.sum_congr rfl fun r _ => by rw [rows_at, rows_at]

/-- The products held after point `n`: the sum over the blocks up to it. -/
theorem gramAt_at (c : Dev nD) (i j : Fin 128) (n : ℕ) : (h : n < cfg0.N) →
    (gramAt m c n h : FVec Ideal S128x128 .f32) (ix2 i j) = ∑ t : Fin (n + 1), blockGram m c i j (t.castLE h) := by
  induction n with
  | zero => intro h; exact (pay6_at _ i j).trans ((blockGram_eq m c i j _).trans (Fin.sum_univ_one fun t : Fin 1 => blockGram m c i j (t.castLE h)).symm)
  | succ n ih =>
    intro h
    refine (pay8_at _ _ i j).trans ?_
    rw [ih, blockGram_eq, Fin.sum_univ_castSucc (n := n + 1)]
    rfl

/-- The squares held after point `n`: the sum over the blocks up to it. -/
theorem squaresAt_at (c : Dev nD) (j : Fin 128) (n : ℕ) : (h : n < cfg0.N) →
    (squaresAt m c n h : FVec Ideal S1x128 .f32) (ix2 0 j) = ∑ t : Fin (n + 1), blockGram m c j j (t.castLE h) := by
  induction n with
  | zero => intro h; exact (pay7_at _ j).trans ((blockGram_eq m c j j _).trans (Fin.sum_univ_one fun t : Fin 1 => blockGram m c j j (t.castLE h)).symm)
  | succ n ih =>
    intro h
    refine (pay9_at _ _ j).trans ?_
    rw [ih, blockGram_eq, Fin.sum_univ_castSucc (n := n + 1)]
    rfl

/-- Sixteen blocks of 8192 rows are all the rows. -/
theorem blocks_sum (c : Dev nD) (i j : Fin 128) : ∑ t : Fin 16, blockGram m c i j (t.castLE last_lt) = Formula.gram (entries m c) i j :=
  (Fin.sum_univ_tiles 16 8192 rfl fun r => entries m c r i * entries m c r j).symm

/-- The cache holds the argument. -/
theorem fullCache_at (c : Dev nD) (r : Fin 131072) (j : Fin 128) : (fullCache m c : FVec Ideal S131072x128 .bf16) (ix2 r j) = entries m c r j := by
  refine (pay3_at _ _).trans ?_
  have e : inBlock (ix2 r j) = ix2 ⟨r.val % 8192, Nat.mod_lt _ (by decide)⟩ j := by idx_ext
  rw [e]
  refine (rows_at m c _ _ j).trans (congrArg (fun r => entries m c r j) (Fin.ext ?_))
  show r.val / 8192 * 8192 + r.val % 8192 = r.val
  omega

/-! ## The output block -/

/-- Putting a slab of 32768 columns that holds the right values leaves the right values, where those outside the slab were right before. -/
theorem put_slab (o : FVec Ideal S1x131072 .f32) (p : FVec Ideal S1x32768 .f32) (n : ℕ) (hn : n + 32768 ≤ 131072) (G : Fin 131072 → EReal)
    (hp : ∀ q : Fin 32768, p (ix2 0 q) = G ⟨n + q.val, by omega⟩) (r : Fin 131072) (ho : ¬(n ≤ r.val ∧ r.val < n + 32768) → o (ix2 0 r) = G r) :
    VecWindow.put o ![0, n] S1x32768.size p (ix2 0 r) = G r := by
  unfold VecWindow.put
  by_cases h : n ≤ r.val ∧ r.val < n + 32768
  · rw [dif_pos (fun a => match a with
      | ⟨0, _⟩ => ⟨Nat.le_refl 0, Nat.zero_lt_one⟩
      | ⟨1, _⟩ => h)]
    refine Eq.trans (congrArg p (?_ : _ = ix2 (0 : Fin 1) (⟨r.val - n, by omega⟩ : Fin 32768))) ((hp _).trans (congrArg G (Fin.ext ?_)))
    · funext a
      match a with
      | ⟨0, _⟩ => rfl
      | ⟨1, _⟩ => rfl
    · show n + (r.val - n) = r.val
      omega
  · rw [dif_neg (fun hall => h (hall 1))]
    exact ho h

/-- The product of the weights with cached rows. -/
theorem pay10_at (w : FVec Ideal S1x128 .f32) (x : FVec Ideal S32768x128 .bf16) (q : Fin 32768) :
    k0_pay10 (F := Ideal) (k0_pay103 (F := Ideal) w) x (ix2 0 q) = ∑ j, w (ix2 0 j) * x (ix2 q j) := by
  pointwise [k0_pay10, k0_pay103]

/-- A slab of the cache, entry by entry. -/
theorem window_at (d : FVec Ideal S131072x128 .bf16) (n : ℕ) (hn : n + 32768 ≤ 131072) (h) (q : Fin 32768) (j : Fin 128) :
    VecWindow.window d ![n, 0] S32768x128.size h (ix2 q j) = d (ix2 ⟨n + q.val, by omega⟩ j) := by
  unfold VecWindow.window
  refine congrArg d (funext fun a => Fin.ext ?_)
  match a with
  | ⟨0, _⟩ => show n + 1 * q.val = n + q.val; omega
  | ⟨1, _⟩ => show 0 + 1 * j.val = j.val; omega

/-- Column `r` of the output block: the weights times row `r` of the cache. -/
theorem outBlock_at (w : FVec Ideal S1x128 .f32) (d : FVec Ideal S131072x128 .bf16) (o : FVec Ideal S1x131072 .f32) (r : Fin 131072) :
    outBlock (F := Ideal) w d o (ix2 0 r) = ∑ j, w (ix2 0 j) * d (ix2 r j) := by
  have slab : ∀ (n : ℕ) (hn : n + 32768 ≤ 131072) (h) (q : Fin 32768),
      k0_pay10 (F := Ideal) (k0_pay103 (F := Ideal) w) (VecWindow.window d ![n, 0] S32768x128.size h) (ix2 0 q) = ∑ j, w (ix2 0 j) * d (ix2 ⟨n + q.val, by omega⟩ j) :=
    fun n hn h q => (pay10_at _ _ q).trans (Finset.sum_congr rfl fun j _ => congrArg _ (window_at d n hn h q j))
  have hr := r.isLt
  unfold outBlock
  refine put_slab _ _ 98304 (by omega) (fun r => ∑ j, w (ix2 0 j) * d (ix2 r j)) (slab 98304 (by omega) _) r fun h3 => ?_
  refine put_slab _ _ 65536 (by omega) (fun r => ∑ j, w (ix2 0 j) * d (ix2 r j)) (slab 65536 (by omega) _) r fun h2 => ?_
  refine put_slab _ _ 32768 (by omega) (fun r => ∑ j, w (ix2 0 j) * d (ix2 r j)) (slab 32768 (by omega) _) r fun h1 => ?_
  refine put_slab _ _ 0 (by omega) (fun r => ∑ j, w (ix2 0 j) * d (ix2 r j)) (slab 0 (by omega) _) r fun h0 => ?_
  omega

/-- The kernel's result at row `r` is the formula's output of its argument. -/
theorem result_at (c : Dev nD) (r : Fin 131072) :
    shapeCast S131072x1 (finalOut m c : FVec Ideal S1x131072 .f32) shapeCasts_S1x131072_S131072x1 (ix2 r 0) = Formula.output (entries m c) r := by
  pointwise []
  refine (outBlock_at _ _ _ r).trans (Finset.sum_congr rfl fun j _ => ?_)
  rw [fullCache_at m c r j, mul_comm]
  refine congrArg (entries m c r j * ·) ((weightRow_at _ _ j).trans ?_)
  have hs : (fun j => (squaresAt m c 15 last_lt : FVec Ideal S1x128 .f32) (ix2 0 j)) = Formula.squares (entries m c) :=
    funext fun j => (squaresAt_at m c j 15 last_lt).trans (blocks_sum m c j j)
  have hg : (fun i j => (gramAt m c 15 last_lt : FVec Ideal S128x128 .f32) (ix2 i j)) = Formula.gram (entries m c) :=
    funext fun i => funext fun j => (gramAt_at m c i j 15 last_lt).trans (blocks_sum m c i j)
  rw [hs, hg]

end Cert.KernelIdeal.Work

end
-- ==== Proof.lean ====
module

public import proofs.«01_k».proof.Defs
public import proofs.«01_k».proof.Proof.Same
public import proofs.«01_k».proof.Proof.RefRun
public import proofs.«01_k».proof.Proof.RefFormula
public import proofs.«01_k».proof.Proof.Value
public import Idealize.ShloMosaic.Adequacy
public import Idealize.ShloMosaic.Init

@[expose] public section

noncomputable section

namespace Cert.Proof

open Idealize.ShloMosaic Idealize.SL.Sem

/-- The idealized kernel runs: argument unchanged, counters at zero. -/
theorem frame_ideal : Cert.quiescent_KernelIdeal (hKernelIdeal := Cert.KernelIdeal.Gen.facts) := fun m ρ _ =>
  Cert.KernelIdeal.Work.quiescent m ρ

/-- The reference runs: argument unchanged, counters at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Work.run (F := Ideal) m ρ)

/-- The value both results hold, from the kernel's argument: what the reference computes of it. -/
theorem same_result (m : (ℓ : Loc Cert.KernelIdeal.nD Cert.KernelIdeal.τ Cert.KernelIdeal.sig) → Buf (Elt Ideal) ℓ) (c : Dev Cert.KernelIdeal.nD) :
    Cert.ReferenceIdeal.Work.result (F := Ideal) (m ((c.tc : Thread Cert.KernelIdeal.nD Cert.KernelIdeal.τ).loc Cert.KernelIdeal.main_arg0))
      = shapeCast Cert.KernelIdeal.S131072x1 (Cert.KernelIdeal.Work.finalOut m c) Cert.KernelIdeal.Gen.shapeCasts_S1x131072_S131072x1 := by
  funext j
  have hj : j = ix2 (j 0) 0 := by
    funext b
    match b with
    | ⟨0, _⟩ => rfl
    | ⟨1, _⟩ => exact Subsingleton.elim (α := Fin 1) _ _
  rw [hj]
  exact (Cert.ReferenceIdeal.Work.result_at _ (j 0)).trans (Cert.KernelIdeal.Work.result_at m c (j 0)).symm

/-- On equal arguments the idealized kernel and the idealized reference end with equal results, entry by entry, and leave their
    arguments as they were. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => shapeCast Cert.KernelIdeal.S131072x1 (Cert.KernelIdeal.Work.finalOut m c) Cert.KernelIdeal.Gen.shapeCasts_S1x131072_S131072x1,
    Cert.KernelIdeal.Work.run_value (F := Ideal) m g, ?_⟩
  refine (θ_run (Cert.ReferenceIdeal.defs (F := Ideal)) _ _).mono (fun r h c => ?_) (Cert.ReferenceIdeal.Work.run (F := Ideal) m' g')
  obtain ⟨hv, h0⟩ := h c
  refine ⟨hv.trans ?_, h0⟩
  rw [hargs c]
  exact same_result m c

/-- The five claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
